-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v23_0) = v1 c
          ∧ r.2.mem ((c.tc : Thread Cert.ReferenceIdeal.nD Cert.ReferenceIdeal.τ).loc Cert.ReferenceIdeal.main_v15) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x3072x8192 : Shape := ⟨3, ![4, 3072, 8192]⟩
abbrev S2048x8192 : Shape := ⟨2, ![2048, 8192]⟩
abbrev S16x64 : Shape := ⟨2, ![16, 64]⟩
abbrev S_ : Shape := ⟨0, ![]⟩

class Facts : Prop where
  bitsLt_bf16_f32 : FTy.bits .bf16 < FTy.bits .f32
  bcast_S_S4x3072x8192 : S_.BroadcastsInDim S4x3072x8192 (![] : Fin 0 → Fin S4x3072x8192.rank)
  reducesTo_S4x3072x8192_S_d0_1_2 : S4x3072x8192.ReducesTo [0, 1, 2] S_
  h_S_ : 0 < S_.numel

variable [Facts]

def fn {F : FTy → Type} [FloatOps F] (main_arg0 : FVec F S4x3072x8192 .bf16) (main_arg1 : FVec F S2048x8192 .fp8e4m3) (main_arg2 : FVec F S16x64 .f32) : IVec S_ 1 :=
  let main_v0 : FVec F S4x3072x8192 .f32 := (extf .f32 · bitsLt_bf16_f32) main_arg0
  let main_v1 : FVec F S4x3072x8192 .f32 := Host.absf main_v0
  let main_cst : FVec F S_ .f32 := constant S_ .f32 0x7F7F0000#32
  let main_v2 : FVec F S4x3072x8192 .f32 := broadcastInDim S4x3072x8192 ![] bcast_S_S4x3072x8192 main_cst
  let main_v3 : IVec S4x3072x8192 1 := cmpf .ole main_v1 main_v2
  let main_c : IVec S_ 1 := constantI S_ 1 1#1
  let main_v4 : IVec S_ 1 := (fun x v => Host.reduce IntOp.andi x v reducesTo_S4x3072x8192_S_d0_1_2 h_S_) main_v3 main_c
  main_v4
-- ==== Kernel.lean ====
abbrev S4x3072x8192 : Shape := ⟨3, ![4, 3072, 8192]⟩
abbrev S2048x8192 : Shape := ⟨2, ![2048, 8192]⟩
abbrev S16x64 : Shape := ⟨2, ![16, 64]⟩
abbrev S4x3072x2048 : Shape := ⟨3, ![4, 3072, 2048]⟩
abbrev S4x64x3072 : Shape := ⟨3, ![4, 64, 3072]⟩
abbrev S1x256x8192 : Shape := ⟨3, ![1, 256, 8192]⟩
abbrev S1x256x2048 : Shape := ⟨3, ![1, 256, 2048]⟩
abbrev S1x64x256 : Shape := ⟨3, ![1, 64, 256]⟩
abbrev S2048x256 : Shape := ⟨2, ![2048, 256]⟩
abbrev S256x64 : Shape := ⟨2, ![256, 64]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩
abbrev S64x256 : Shape := ⟨2, ![64, 256]⟩
abbrev S2048x128 : Shape := ⟨2, ![2048, 128]⟩
abbrev S1x256 : Shape := ⟨2, ![1, 256]⟩
abbrev S1x1 : Shape := ⟨2, ![1, 1]⟩
abbrev S128x256 : Shape := ⟨2, ![128, 256]⟩
abbrev S256x2048 : Shape := ⟨2, ![256, 2048]⟩
abbrev S4x3072x64 : Shape := ⟨3, ![4, 3072, 64]⟩

abbrev nBuf : Space → Nat
  | .hbm => 7
  | .vmem => 10
  | .smem => 1
  | _ => 0

abbrev bufTy : (tb : Table) → Fin (tcTables nBuf tb) → BufTy
  | .hbm, ⟨0, _⟩ => ⟨S4x3072x8192, .bf16⟩
  | .hbm, ⟨1, _⟩ => ⟨S2048x8192, .fp8e4m3⟩
  | .hbm, ⟨2, _⟩ => ⟨S16x64, .f32⟩
  | .hbm, ⟨3, _⟩ => ⟨S4x3072x2048, .bf16⟩
  | .hbm, ⟨4, _⟩ => ⟨S4x3072x8192, .fp8e4m3⟩
  | .hbm, ⟨5, _⟩ => ⟨S4x64x3072, .f32⟩
  | .hbm, ⟨6, _⟩ => ⟨S4x3072x64, .f32⟩
  | .local _ .vmem, ⟨0, _⟩ => ⟨S1x256x8192, .bf16⟩
  | .local _ .vmem, ⟨1, _⟩ => ⟨S1x256x8192, .bf16⟩
  | .local _ .vmem, ⟨2, _⟩ => ⟨S2048x8192, .fp8e4m3⟩
  | .local _ .vmem, ⟨3, _⟩ => ⟨S1x256x2048, .bf16⟩
  | .local _ .vmem, ⟨4, _⟩ => ⟨S1x256x2048, .bf16⟩
  | .local _ .vmem, ⟨5, _⟩ => ⟨S1x256x8192, .fp8e4m3⟩
  | .local _ .vmem, ⟨6, _⟩ => ⟨S1x256x8192, .fp8e4m3⟩
  | .local _ .vmem, ⟨7, _⟩ => ⟨S1x64x256, .f32⟩
  | .local _ .vmem, ⟨8, _⟩ => ⟨S1x64x256, .f32⟩
  | .local _ .vmem, ⟨9, _⟩ => ⟨S2048x256, .f32⟩
  | .local _ .smem, ⟨0, _⟩ => ⟨S16x64, .f32⟩
  | _, _ => ⟨S4x3072x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c12_i32 : BitVec 32 := 12#32
  let v0 : BitVec 32 := Scalar.divsi arg0 c12_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c12_i32 c0_i32_1
  let v7 : BitVec 32 := Scalar.extui v6
  let c0_i32_2 : BitVec 32 := 0#32
  let v8 : BitVec 1 := Scalar.cmpi .slt c12_i32 c0_i32_2
  let v9 : BitVec 32 := Scalar.extui v8
  let v10 : BitVec 32 := Scalar.subi v7 v9
  let v11 : BitVec 1 := Scalar.cmpi .ne v5 v10
  let v12 : BitVec 32 := Scalar.remsi arg0 c12_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c12_i32_4 : BitVec 32 := 12#32
  let c0_i32_5 : BitVec 32 := 0#32
  let v17 : BitVec 1 := Scalar.cmpi .eq c12_i32_4 c0_i32_5
  let c1_i32_6 : BitVec 32 := 1#32
  let v18 : BitVec 32 := Scalar.select v17 c1_i32_6 c12_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c12_i32 : BitVec 32 := 12#32
  let v0 : BitVec 32 := Scalar.divsi arg0 c12_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c12_i32 c0_i32_1
  let v7 : BitVec 32 := Scalar.extui v6
  let c0_i32_2 : BitVec 32 := 0#32
  let v8 : BitVec 1 := Scalar.cmpi .slt c12_i32 c0_i32_2
  let v9 : BitVec 32 := Scalar.extui v8
  let v10 : BitVec 32 := Scalar.subi v7 v9
  let v11 : BitVec 1 := Scalar.cmpi .ne v5 v10
  let v12 : BitVec 32 := Scalar.remsi arg0 c12_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c12_i32_4 : BitVec 32 := 12#32
  let c0_i32_5 : BitVec 32 := 0#32
  let v17 : BitVec 1 := Scalar.cmpi .eq c12_i32_4 c0_i32_5
  let c1_i32_6 : BitVec 32 := 1#32
  let v18 : BitVec 32 := Scalar.select v17 c1_i32_6 c12_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_4 (i : grid0.Coords) : Fin 3 → Nat :=
  let arg0 : BitVec 32 := BitVec.ofNat 32 (i 0).val
  let c12_i32 : BitVec 32 := 12#32
  let v0 : BitVec 32 := Scalar.divsi arg0 c12_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c12_i32 c0_i32_1
  let v7 : BitVec 32 := Scalar.extui v6
  let c0_i32_2 : BitVec 32 := 0#32
  let v8 : BitVec 1 := Scalar.cmpi .slt c12_i32 c0_i32_2
  let v9 : BitVec 32 := Scalar.extui v8
  let v10 : BitVec 32 := Scalar.subi v7 v9
  let v11 : BitVec 1 := Scalar.cmpi .ne v5 v10
  let v12 : BitVec 32 := Scalar.remsi arg0 c12_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c12_i32_4 : BitVec 32 := 12#32
  let c0_i32_5 : BitVec 32 := 0#32
  let v17 : BitVec 1 := Scalar.cmpi .eq c12_i32_4 c0_i32_5
  let c1_i32_6 : BitVec 32 := 1#32
  let v18 : BitVec 32 := Scalar.select v17 c1_i32_6 c12_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_5 (i : grid0.Coords) : Fin 3 → Nat :=
  let arg0 : BitVec 32 := BitVec.ofNat 32 (i 0).val
  let c12_i32 : BitVec 32 := 12#32
  let v0 : BitVec 32 := Scalar.divsi arg0 c12_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c12_i32 c0_i32_1
  let v7 : BitVec 32 := Scalar.extui v6
  let c0_i32_2 : BitVec 32 := 0#32
  let v8 : BitVec 1 := Scalar.cmpi .slt c12_i32 c0_i32_2
  let v9 : BitVec 32 := Scalar.extui v8
  let v10 : BitVec 32 := Scalar.subi v7 v9
  let v11 : BitVec 1 := Scalar.cmpi .ne v5 v10
  let v12 : BitVec 32 := Scalar.remsi arg0 c12_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c12_i32_4 : BitVec 32 := 12#32
  let c0_i32_5 : BitVec 32 := 0#32
  let v17 : BitVec 1 := Scalar.cmpi .eq c12_i32_4 c0_i32_5
  let c1_i32_6 : BitVec 32 := 1#32
  let v18 : BitVec 32 := Scalar.select v17 c1_i32_6 c12_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 1 → Memref sig .tc .smem S16x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x256x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x8192 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4x3072x8192 : Shape := ⟨3, ![4, 3072, 8192]⟩
abbrev S2048x8192 : Shape := ⟨2, ![2048, 8192]⟩
abbrev S16x64 : Shape := ⟨2, ![16, 64]⟩
abbrev S253 : Shape := ⟨1, ![253]⟩
abbrev S4x3072x64x128 : Shape := ⟨4, ![4, 3072, 64, 128]⟩
abbrev S_ : Shape := ⟨0, ![]⟩
abbrev S4x3072x64 : Shape := ⟨3, ![4, 3072, 64]⟩
abbrev S4x3072x64x1 : Shape := ⟨4, ![4, 3072, 64, 1]⟩
abbrev S1x1x1x253 : Shape := ⟨4, ![1, 1, 1, 253]⟩
abbrev S4x3072x64x253 : Shape := ⟨4, ![4, 3072, 64, 253]⟩
abbrev S12288x64x128 : Shape := ⟨3, ![12288, 64, 128]⟩
abbrev S2048x64x128 : Shape := ⟨3, ![2048, 64, 128]⟩
abbrev S64x12288x2048 : Shape := ⟨3, ![64, 12288, 2048]⟩
abbrev S12288x64 : Shape := ⟨2, ![12288, 64]⟩
abbrev S64x12288 : Shape := ⟨2, ![64, 12288]⟩
abbrev S16x128x64 : Shape := ⟨3, ![16, 128, 64]⟩
abbrev S2048x64 : Shape := ⟨2, ![2048, 64]⟩
abbrev S64x2048 : Shape := ⟨2, ![64, 2048]⟩
abbrev S64x12288x1 : Shape := ⟨3, ![64, 12288, 1]⟩
abbrev S64x1x2048 : Shape := ⟨3, ![64, 1, 2048]⟩
abbrev S12288x2048 : Shape := ⟨2, ![12288, 2048]⟩
abbrev S4x3072x2048 : Shape := ⟨3, ![4, 3072, 2048]⟩

abbrev nBuf : Space → Nat
  | .hbm => 66
  | .vmem => 5
  | .smem => 0
  | _ => 0

abbrev bufTy : (tb : Table) → Fin (tcTables nBuf tb) → BufTy
  | .hbm, ⟨0, _⟩ => ⟨S4x3072x8192, .bf16⟩
  | .hbm, ⟨1, _⟩ => ⟨S2048x8192, .fp8e4m3⟩
  | .hbm, ⟨2, _⟩ => ⟨S16x64, .f32⟩
  | .hbm, ⟨3, _⟩ => ⟨S253, .f32⟩
  | .hbm, ⟨4, _⟩ => ⟨S4x3072x8192, .f32⟩
  | .hbm, ⟨5, _⟩ => ⟨S4x3072x64x128, .f32⟩
  | .hbm, ⟨6, _⟩ => ⟨S4x3072x64x128, .f32⟩
  | .hbm, ⟨7, _⟩ => ⟨S_, .f32⟩
  | .hbm, ⟨8, _⟩ => ⟨S4x3072x64, .f32⟩
  | .hbm, ⟨9, _⟩ => ⟨S_, .f32⟩
  | .hbm, ⟨10, _⟩ => ⟨S4x3072x64, .f32⟩
  | .hbm, ⟨11, _⟩ => ⟨S4x3072x64, .f32⟩
  | .hbm, ⟨12, _⟩ => ⟨S4x3072x64x1, .f32⟩
  | .hbm, ⟨13, _⟩ => ⟨S1x1x1x253, .f32⟩
  | .hbm, ⟨14, _⟩ => ⟨S4x3072x64x253, .f32⟩
  | .hbm, ⟨15, _⟩ => ⟨S4x3072x64x253, .f32⟩
  | .hbm, ⟨16, _⟩ => ⟨S4x3072x64x253, .i1⟩
  | .hbm, ⟨17, _⟩ => ⟨S_, .f32⟩
  | .hbm, ⟨18, _⟩ => ⟨S_, .f32⟩
  | .hbm, ⟨19, _⟩ => ⟨S4x3072x64x253, .f32⟩
  | .hbm, ⟨20, _⟩ => ⟨S4x3072x64x253, .f32⟩
  | .hbm, ⟨21, _⟩ => ⟨S4x3072x64x253, .f32⟩
  | .hbm, ⟨22, _⟩ => ⟨S_, .f32⟩
  | .hbm, ⟨23, _⟩ => ⟨S4x3072x64, .f32⟩
  | .hbm, ⟨24, _⟩ => ⟨S_, .f32⟩
  | .hbm, ⟨25, _⟩ => ⟨S4x3072x64, .f32⟩
  | .hbm, ⟨26, _⟩ => ⟨S4x3072x64, .i1⟩
  | .hbm, ⟨27, _⟩ => ⟨S_, .f32⟩
  | .hbm, ⟨28, _⟩ => ⟨S4x3072x64, .f32⟩
  | .hbm, ⟨29, _⟩ => ⟨S4x3072x64, .f32⟩
  | .hbm, ⟨30, _⟩ => ⟨S_, .f32⟩
  | .hbm, ⟨31, _⟩ => ⟨S4x3072x64, .f32⟩
  | .hbm, ⟨32, _⟩ => ⟨S4x3072x64, .f32⟩
  | .hbm, ⟨33, _⟩ => ⟨S4x3072x64x1, .f32⟩
  | .hbm, ⟨34, _⟩ => ⟨S4x3072x64x128, .f32⟩
  | .hbm, ⟨35, _⟩ => ⟨S4x3072x64x128, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4x3072x64x128, .f32⟩
  | .hbm, ⟨40, _⟩ => ⟨S4x3072x64x128, .f32⟩
  | .hbm, ⟨41, _⟩ => ⟨S_, .f32⟩
  | .hbm, ⟨42, _⟩ => ⟨S4x3072x64x128, .f32⟩
  | .hbm, ⟨43, _⟩ => ⟨S4x3072x64x128, .f32⟩
  | .hbm, ⟨44, _⟩ => ⟨S4x3072x8192, .f32⟩
  | .hbm, ⟨45, _⟩ => ⟨S4x3072x8192, .fp8e4m3⟩
  | .hbm, ⟨46, _⟩ => ⟨S4x3072x8192, .f32⟩
  | .hbm, ⟨47, _⟩ => ⟨S2048x8192, .f32⟩
  | .hbm, ⟨48, _⟩ => ⟨S12288x64x128, .f32⟩
  | .hbm, ⟨49, _⟩ => ⟨S2048x64x128, .f32⟩
  | .hbm, ⟨50, _⟩ => ⟨S64x12288x2048, .f32⟩
  | .hbm, ⟨51, _⟩ => ⟨S12288x64, .f32⟩
  | .hbm, ⟨52, _⟩ => ⟨S64x12288, .f32⟩
  | .hbm, ⟨53, _⟩ => ⟨S16x128x64, .f32⟩
  | .hbm, ⟨54, _⟩ => ⟨S2048x64, .f32⟩
  | .hbm, ⟨55, _⟩ => ⟨S64x2048, .f32⟩
  | .hbm, ⟨56, _⟩ => ⟨S64x12288x1, .f32⟩
  | .hbm, ⟨57, _⟩ => ⟨S64x12288x2048, .f32⟩
  | .hbm, ⟨58, _⟩ => ⟨S64x12288x2048, .f32⟩
  | .hbm, ⟨59, _⟩ => ⟨S64x1x2048, .f32⟩
  | .hbm, ⟨60, _⟩ => ⟨S64x12288x2048, .f32⟩
  | .hbm, ⟨61, _⟩ => ⟨S64x12288x2048, .f32⟩
  | .hbm, ⟨62, _⟩ => ⟨S_, .f32⟩
  | .hbm, ⟨63, _⟩ => ⟨S12288x2048, .f32⟩
  | .hbm, ⟨64, _⟩ => ⟨S4x3072x2048, .f32⟩
  | .hbm, ⟨65, _⟩ => ⟨S4x3072x2048, .bf16⟩
  | .local _ .vmem, ⟨0, _⟩ => ⟨S4x3072x8192, .f32⟩
  | .local _ .vmem, ⟨1, _⟩ => ⟨S2048x8192, .fp8e4m3⟩
  | .local _ .vmem, ⟨2, _⟩ => ⟨S4x3072x8192, .fp8e4m3⟩
  | .local _ .vmem, ⟨3, _⟩ => ⟨S4x3072x8192, .f32⟩
  | .local _ .vmem, ⟨4, _⟩ => ⟨S2048x8192, .f32⟩
  | _, _ => ⟨S4x3072x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_v14 : Ref sig .tc := ⟨.hbm, 26, rfl⟩
abbrev main_cst_5 : Ref sig .tc := ⟨.hbm, 27, rfl⟩
abbrev main_call1_v0 : Ref sig .tc := ⟨.hbm, 28, rfl⟩
abbrev main_v15 : Ref sig .tc := ⟨.hbm, 29, rfl⟩
abbrev main_cst_6 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_7 : Ref sig .tc := ⟨.hbm, 36, rfl⟩
abbrev main_cst_8 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_v21 : Ref sig .tc := ⟨.hbm, 43, rfl⟩
abbrev main_v22 : Ref sig .tc := ⟨.hbm, 44, rfl⟩
abbrev main_v23_0 : Ref sig .tc := ⟨.hbm, 45, rfl⟩
abbrev main_v23_1 : Ref sig .tc := ⟨.hbm, 46, rfl⟩
abbrev main_v23_2 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_9 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4x3072x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x3072x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x3072x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Access.lean ====
/-
  Loads and stores of a memref owned by its values: a load at a rectangle of unit stride returns a window of the
  values, an unmasked store there puts the payload over that window, and a load of one word of scalar memory returns
  the element. Each is a rule at the head of a program.
-/
module

public import Idealize.ShloMosaic.Lib.VecWindow
public import Idealize.ShloMosaic.Lib.Pipeline.Frame
public import Idealize.ShloMosaic.Lib.ReshapeSlab

@[expose] public section

noncomputable section

namespace Cert.Block

open Idealize.ShloMosaic
open Idealize.SL Idealize.SL.RA Idealize.SL.Sem Idealize.SL.ProofMode
open Idealize.SL.BI (sProp)
open scoped Idealize.SL.BI
open Idealize.SL.BI.BIBase Idealize.SL.BI.Laws

variable {nD : Nat} {τ : Topo} {sig : RefSig} {Ix : Type} [DecidableEq Ix]
variable {Val : EltTy → Type} {Name : Type} [DecidableEq Name]
variable {U : Type} [URA U]
variable {Lvl : Type} {Λ : Labels}
local notation "𝕄" => MT nD τ sig Ix Val Name U Lvl
variable [Preorder Lvl] {defs : Defs nD τ sig Val Λ} (𝒱 : Variants) (c : Thread nD τ)
  (bd : Option 𝒱.V) {Γ : PendingWaitsCtx sig Ix} (E : Set Name)
variable {s : Shape} {e : EltTy} {α : Type} {Q : α → sProp (MT nD τ sig Ix Val Name U Lvl)}

/-- A load of a window of a memref owned at `x`. -/
theorem wp_load_owned {cs : CoreSpace} {m : Memref sig c.2.kind cs s e} {q : PosShare TreeShare} {x : s.Idx → Val e}
    {off size : Fin s.rank → ℕ} {inb : ∀ a, off a + size a ≤ s.size a} {hl : m.view.LoadsAt (Rect.unit off size inb).toLoadRect}
    {k : ((Rect.unit off size inb).shape.Idx → Val e) → Prog (TpuEff nD τ sig Val Λ c.2) α} :
    (owns c m q x : sProp 𝕄)
      ⊢ iprop((owns c m q x -∗ wp frame (wpE' defs 𝒱 c bd Γ) E (k (VecWindow.window x off size inb)) Q)
        -∗ wp frame (wpE' defs 𝒱 c bd Γ) E (.op (.load m (Rect.unit off size inb).toLoadRect hl) k) Q) := by
  unfold owns
  iintro ⟨%f, %hf, H⟩ Hk
  iapply (wp_load 𝒱 c bd E (View.setOn_subset_set _ _)) $$ H
  iintro H
  rw [View.readAt_unit m.view f inb rfl inb, hf]
  iapply Hk
  iexists f
  isplitr
  · ipureintro; exact hf
  iexact H

/-- An unmasked store over a window of a memref owned at `x`. -/
theorem wp_store_owned {cs : CoreSpace} {m : Memref sig c.2.kind cs s e} {x : s.Idx → Val e}
    {off size : Fin s.rank → ℕ} {inb : ∀ a, off a + size a ≤ s.size a} {w : (Rect.unit off size inb).shape.Idx → Val e}
    {hx : (m.access (Rect.unit off size inb)).Stores Finset.univ}
    {hm : Finset.univ = Finset.univ ∨ ∀ a, (Rect.unit off size inb).stride a = 1}
    {k : PUnit → Prog (TpuEff nD τ sig Val Λ c.2) α} :
    (owns c m fullShare x : sProp 𝕄)
      ⊢ iprop((owns c m fullShare (VecWindow.put x off size w) -∗ wp frame (wpE' defs 𝒱 c bd Γ) E (k ⟨⟩) Q)
        -∗ wp frame (wpE' defs 𝒱 c bd Γ) E (.op (.store m (Rect.unit off size inb) w Finset.univ hx hm) k) Q) := by
  unfold owns
  iintro ⟨%f, %hf, H⟩ Hk
  have h := wp_store (defs := defs) (Γ := Γ) 𝒱 c bd E (Q := Q) (m := m) (r := Rect.unit off size inb) (w := w) (Mk := Finset.univ) (hx := hx)
    (hm := hm) (k := k) (S := m.view.set) (f := f)
    ((View.set_slice_subset_setOn m.view _).trans (View.setOn_subset_set _ _))
  iapply h $$ [H]
  · iexact H
  iintro H
  iapply Hk
  iexists _
  isplitr
  swap
  · iexact H
  ipureintro
  exact (View.read_writes_cons_put m.view f inb w [] rfl).trans (by rw [View.writes_nil, hf])

end Cert.Block

end
-- ==== Proof.Program.lean ====
/-
  The kernel's body, written as its loops. The printed body is the loops unrolled: for each of the 64 groups of 128
  columns the largest magnitude of a row's group; the scale and its inverse; for each group the codes; the scales
  turned; for each pair of groups the two products of the weights with the codes and, for each of the 16 blocks of
  128 rows, the pair's contribution added to the accumulator; the accumulator turned.
-/
module

public import proofs.«01_k».proof.Proof.Gen.KernelIdeal

@[expose] public section

noncomputable section

namespace Cert.KernelIdeal.Body

open Idealize.ShloMosaic Idealize.SL.Sem
open Facts Facts₀ Shapes1.Facts₀ Shapes2.Facts₀ K0.Facts₀

variable {F : FTy → Type} [FloatOps F]

/-- The programs the body is one of. -/
abbrev P (F : FTy → Type) [FloatOps F] := Prog (TpuEff nD τ sig (Elt F) Λ₀ .tc) PUnit

/-! ## Bounds -/

theorem group_inb {g : ℕ} (hg : g < 64) : ∀ a, (![0, 0, 128 * g] : Fin 3 → ℕ) a + S1x256x128.size a ≤ S1x256x8192.size a := by
  intro a; fin_cases a <;> simp <;> omega

theorem columns_inb {g : ℕ} (hg : g < 64) : ∀ a, (![0, 128 * g] : Fin 2 → ℕ) a + S2048x128.size a ≤ S2048x8192.size a := by
  intro a; fin_cases a <;> simp <;> omega

theorem rows_inb {n : ℕ} (hn : n < 16) : ∀ a, (![128 * n, 0] : Fin 2 → ℕ) a + S128x256.size a ≤ S2048x256.size a := by
  intro a; fin_cases a <;> simp <;> omega

theorem word_inb {n g : ℕ} (hn : n < 16) (hg : g < 64) : ∀ a, (![n, g] : Fin 2 → ℕ) a + S1x1.size a ≤ S16x64.size a := by
  intro a; fin_cases a <;> simp <;> omega

theorem column_slices {g : ℕ} (hg : g < 64) : S256x64.Slices ![0, g] S256x1 :=
  ⟨rfl, by intro a; fin_cases a <;> simp <;> omega⟩

theorem scaleRow_slices {g : ℕ} (hg : g < 64) : S64x256.Slices ![g, 0] S1x256 :=
  ⟨rfl, by intro a; fin_cases a <;> simp <;> omega⟩

theorem rows_slices {n : ℕ} (hn : n < 16) : S2048x256.Slices ![128 * n, 0] S128x256 :=
  ⟨rfl, by intro a; fin_cases a <;> simp <;> omega⟩

theorem group_packed {g : ℕ} (hg : g < 64) :
    (Rect.unit (s := S1x256x8192) ![0, 0, 128 * g] S1x256x128.size (group_inb hg)).PackedRows (EltTy.packing .fp8e4m3) :=
  .inr ⟨by decide, rfl, .inl ⟨⟨0, rfl⟩, ⟨64, rfl⟩⟩⟩

/-! ## What the statements compute -/

/-- The running table of largest magnitudes, its column `g` now the largest magnitudes of the rows of group `g`. -/
def amaxStep (g : ℕ) (amax : FVec F S256x64 .f32) (v : Vec F S1x256x128 .bf16) : FVec F S256x64 .f32 :=
  select (cmpi .eq (iota .tc S256x64 32 [1] iota_S256x64_d1_w32) (broadcast S256x64 (BitVec.ofNat 32 g)))
    (broadcastTo S256x64
      (shapeCast S256x1
        (extf .f32
          (shapeCast S256x1
            (multiReduction .maximumf [1] S256 (absf (shapeCast S256x128 v shapeCasts_S1x256x128_S256x128)) 0xFF80#16
              reduces_S256x128_S256 (.inr rfl) rfl)
            shapeCasts_S256_S256x1)
          bitsLt_bf16_f32)
        shapeCasts_S256x1_S256x1)
      broadcasts_S256x1_S256x64)
    amax

/-- One step of the search: the bit joins the word when the power of two of that exponent is at most `t`. -/
def searchStep (t : FVec F S256x64 .f32) (bit : BitVec 32) (biased : IVec S256x64 32) : IVec S256x64 32 :=
  select (cmpf .oge t (bitcastToFloat .f32 (shli (addi biased (broadcast S256x64 bit)) (broadcast S256x64 23#32))))
    (addi biased (broadcast S256x64 bit)) biased

/-- The quotient of the largest magnitudes by the largest code. -/
def ratio (amax : FVec F S256x64 .f32) : FVec F S256x64 .f32 :=
  mulf amax (broadcast S256x64 (Scalar.ofBits .f32 0x3B124925#32))

/-- The exponent field of `t`. -/
def search (t : FVec F S256x64 .f32) : IVec S256x64 32 :=
  searchStep t 1#32 (searchStep t 2#32 (searchStep t 4#32 (searchStep t 8#32 (searchStep t 16#32 (searchStep t 32#32
    (searchStep t 64#32 (searchStep t 128#32 (broadcast S256x64 0#32))))))))

/-- The exponent field, that of one half in place of zero. -/
def biased (amax : FVec F S256x64 .f32) : IVec S256x64 32 :=
  select (cmpi .eq (search (ratio amax)) (broadcast S256x64 0#32)) (broadcast S256x64 126#32) (search (ratio amax))

/-- The scales. -/
def scaleOf (amax : FVec F S256x64 .f32) : FVec F S256x64 .f32 :=
  bitcastToFloat .f32 (shli (addi (biased amax) (broadcast S256x64 1#32)) (broadcast S256x64 23#32))

/-- Their inverses. -/
def invOf (amax : FVec F S256x64 .f32) : FVec F S256x64 .f32 :=
  bitcastToFloat .f32 (shli (subi (broadcast S256x64 253#32) (biased amax)) (broadcast S256x64 23#32))

/-- A group's scaled values before clipping. -/
def scaled {g : ℕ} (hg : g < 64) (inv : FVec F S256x64 .f32) (v : Vec F S1x256x128 .bf16) : FVec F S256x128 .f32 :=
  mulf (extf .f32 (shapeCast S256x128 v shapeCasts_S1x256x128_S256x128) bitsLt_bf16_f32)
    (broadcastTo S256x128 (extractStridedSlice S256x1 ![0, g] inv (column_slices hg)) broadcasts_S256x1_S256x128)

/-- Values clipped to the codes' range. -/
def clip (y : FVec F S256x128 .f32) : FVec F S256x128 .f32 :=
  minimumf (broadcast S256x128 (Scalar.ofBits .f32 0x43E00000#32))
    (maximumf (broadcast S256x128 (Scalar.ofBits .f32 0xC3E00000#32)) y)

/-- The codes of clipped values. -/
def codesOf (y : FVec F S256x128 .f32) : FVec F S1x256x128 .fp8e4m3 :=
  shapeCast S1x256x128 (truncf .fp8e4m3 y bitsLt_fp8e4m3_f32) shapeCasts_S256x128_S1x256x128

/-- The scales, a group's along a row. -/
def turned (scale : FVec F S256x64 .f32) : FVec F S64x256 .f32 :=
  transpose S64x256 [1, 0] scale transposes_S256x64_p1_0_S64x256

/-- The product of a group of the weights with the codes of the same group. -/
def product (w : Vec F S2048x128 .fp8e4m3) (x : Vec F S1x256x128 .fp8e4m3) : FVec F S2048x256 .f32 :=
  matmul dot_S2048x128_S256x128_S2048x256_1_1_0_0_n_n none w (shapeCast S256x128 x shapeCasts_S1x256x128_S256x128)
    (constant S2048x256 .f32 0x00000000#32)

/-- A block of rows of a group's product, times the two scales of the group. -/
def term {g n : ℕ} (hg : g < 64) (hn : n < 16) (st : FVec F S64x256 .f32) (p : FVec F S2048x256 .f32) (s : Elt F .f32) :
    FVec F S128x256 .f32 :=
  mulf (extractStridedSlice S128x256 ![128 * n, 0] p (rows_slices hn))
    (broadcastTo S128x256 (mulf (extractStridedSlice S1x256 ![g, 0] st (scaleRow_slices hg)) (broadcast S1x256 s))
      broadcasts_S1x256_S128x256)

/-- The output block of the accumulator. -/
def outOf (acc : Vec F S2048x256 .f32) : FVec F S1x256x2048 .bf16 :=
  shapeCast S1x256x2048
    (truncf .bf16 (transpose S256x2048 [1, 0] acc transposes_S2048x256_p1_0_S256x2048) bitsLt_bf16_f32)
    shapeCasts_S256x2048_S1x256x2048

/-! ## The loops -/

section
variable (arg1 : Memref sig .tc .smem S16x64 .f32) (arg2 : Memref sig .tc .vmem S1x256x8192 .bf16)
  (arg3 : Memref sig .tc .vmem S2048x8192 .fp8e4m3) (arg4 : Memref sig .tc .vmem S1x256x2048 .bf16) (harg4 : arg4.IsWhole)
  (arg5 : Memref sig .tc .vmem S1x256x8192 .fp8e4m3) (harg5 : arg5.IsWhole) (arg6 : Memref sig .tc .vmem S1x64x256 .f32)
  (arg7 : Memref sig .tc .vmem S2048x256 .f32)

/-- A load of group `g` of the activations. -/
def loadX {g : ℕ} (hg : g < 64) (k : Vec F S1x256x128 .bf16 → P F) : P F :=
  .op (.load arg2 (Rect.unit (s := S1x256x8192) ![0, 0, 128 * g] S1x256x128.size (group_inb hg)).toLoadRect
    (View.loadsAt_vmem h_S1x256x128)) k

/-- A load of group `g` of the codes. -/
def loadC {g : ℕ} (hg : g < 64) (k : Vec F S1x256x128 .fp8e4m3 → P F) : P F :=
  .op (.load arg5 (Rect.unit (s := S1x256x8192) ![0, 0, 128 * g] S1x256x128.size (group_inb hg)).toLoadRect
    (View.loadsAt_vmem h_S1x256x128)) k

/-- A load of group `g` of the weights. -/
def loadW {g : ℕ} (hg : g < 64) (k : Vec F S2048x128 .fp8e4m3 → P F) : P F :=
  .op (.load arg3 (Rect.unit (s := S2048x8192) ![0, 128 * g] S2048x128.size (columns_inb hg)).toLoadRect
    (View.loadsAt_vmem h_S2048x128)) k

/-- A store of codes at group `g`, what was there read first. -/
def storeC {g : ℕ} (hg : g < 64) (w : Vec F S1x256x128 .fp8e4m3) (k : P F) : P F :=
  loadC arg5 hg fun _ =>
    .op (.store arg5 (Rect.unit (s := S1x256x8192) ![0, 0, 128 * g] S1x256x128.size (group_inb hg)) w Finset.univ
      (View.stores_vmem h_S1x256x128 (harg5.storeExact_slice rfl _ (group_packed hg)) (fun _ => rfl)) (.inl rfl)) fun _ => k

/-- The index of a window of one element. -/
def wordIdx : S1x1.Idx := Shape.Idx.first (numel1_S1x1.symm ▸ Nat.one_pos)

/-- A load of a weight scale. -/
def loadS {n g : ℕ} (hn : n < 16) (hg : g < 64) (k : Elt F .f32 → P F) : P F :=
  .op (.load arg1 (Rect.unit (s := S16x64) ![n, g] S1x1.size (word_inb hn hg)).toLoadRect
    (View.loadsAt_rect (View.loads_smem_one rfl numel1_S1x1))) fun f => k (f wordIdx)

/-- A load of block `n` of the accumulator. -/
def loadA {n : ℕ} (hn : n < 16) (k : Vec F S128x256 .f32 → P F) : P F :=
  .op (.load arg7 (Rect.unit (s := S2048x256) ![128 * n, 0] S128x256.size (rows_inb hn)).toLoadRect
    (View.loadsAt_vmem h_S128x256)) k

/-- A store at block `n` of the accumulator, what was there read first. -/
def storeA {n : ℕ} (hn : n < 16) (w : Vec F S128x256 .f32) (k : P F) : P F :=
  loadA arg7 hn fun _ =>
    .op (.store arg7 (Rect.unit (s := S2048x256) ![128 * n, 0] S128x256.size (rows_inb hn)) w Finset.univ
      (View.stores_vmem_bits_univ h_S128x256 rfl) (.inl rfl)) fun _ => k

/-- The largest magnitudes of the last `n` groups. -/
def amaxLoop : (n : ℕ) → n ≤ 64 → FVec F S256x64 .f32 → (FVec F S256x64 .f32 → P F) → P F
  | 0, _, amax, k => k amax
  | n + 1, h, amax, k =>
    loadX arg2 (g := 63 - n) (by omega) fun v => amaxLoop n (by omega) (amaxStep (63 - n) amax v) k

/-- The codes of the last `n` groups. -/
def codesLoop (inv : FVec F S256x64 .f32) : (n : ℕ) → n ≤ 64 → P F → P F
  | 0, _, k => k
  | n + 1, h, k =>
    loadX arg2 (g := 63 - n) (by omega) fun v =>
      storeC arg5 harg5 (g := 63 - n) (by omega) (codesOf (clip (scaled (g := 63 - n) (by omega) inv v)))
        (codesLoop inv n (by omega) k)

/-- What the pair of groups `g` and `g + 1` adds to block `n`. -/
def update {g n : ℕ} (hg : g + 1 < 64) (hn : n < 16) (st : FVec F S64x256 .f32) (p0 p1 : FVec F S2048x256 .f32)
    (s0 s1 : Elt F .f32) : FVec F S128x256 .f32 :=
  addf (term (g := g) (by omega) hn st p0 s0) (term hg hn st p1 s1)

/-- The first pair: the accumulator's last `n` blocks set. -/
def setRows (st : FVec F S64x256 .f32) (p0 p1 : FVec F S2048x256 .f32) : (n : ℕ) → n ≤ 16 → P F → P F
  | 0, _, k => k
  | n + 1, h, k =>
    loadS arg1 (n := 15 - n) (g := 0) (by omega) (by omega) fun s0 =>
    loadS arg1 (n := 15 - n) (g := 1) (by omega) (by omega) fun s1 =>
    storeA arg7 (n := 15 - n) (by omega)
      (shapeCast S128x256 (update (g := 0) (n := 15 - n) (by omega) (by omega) st p0 p1 s0 s1) shapeCasts_S128x256_S128x256)
      (setRows st p0 p1 n (by omega) k)

/-- A later pair: its contribution added to the accumulator's last `n` blocks. -/
def addRows {g : ℕ} (hg : g + 1 < 64) (st : FVec F S64x256 .f32) (p0 p1 : FVec F S2048x256 .f32) : (n : ℕ) → n ≤ 16 → P F → P F
  | 0, _, k => k
  | n + 1, h, k =>
    loadS arg1 (n := 15 - n) (g := g) (by omega) (by omega) fun s0 =>
    loadS arg1 (n := 15 - n) (g := g + 1) (by omega) (by omega) fun s1 =>
    loadA arg7 (n := 15 - n) (by omega) fun a =>
    storeA arg7 (n := 15 - n) (by omega)
      (shapeCast S128x256 (addf a (update (n := 15 - n) hg (by omega) st p0 p1 s0 s1)) shapeCasts_S128x256_S128x256)
      (addRows hg st p0 p1 n (by omega) k)

/-- The two products of a pair. -/
def products {g : ℕ} (hg : g + 1 < 64) (k : FVec F S2048x256 .f32 → FVec F S2048x256 .f32 → P F) : P F :=
  loadW arg3 (g := g) (by omega) fun w0 => loadC arg5 (g := g) (by omega) fun x0 =>
  loadW arg3 hg fun w1 => loadC arg5 hg fun x1 => k (product w0 x0) (product w1 x1)

/-- The last `n` pairs. -/
def pairsLoop (st : FVec F S64x256 .f32) : (n : ℕ) → n ≤ 31 → P F → P F
  | 0, _, k => k
  | n + 1, h, k =>
    products arg3 arg5 (g := 2 * (31 - n)) (by omega) fun p0 p1 =>
      addRows arg1 arg7 (g := 2 * (31 - n)) (by omega) st p0 p1 16 (by omega) (pairsLoop st n (by omega) k)

/-- The scales stored. -/
def storeScales (st : FVec F S64x256 .f32) (k : P F) : P F :=
  .op (.load arg6 (Rect.unit (s := S1x64x256) ![0, 0, 0] S1x64x256.size inb_S1x64x256_S1x64x256_0_0_0).toLoadRect
    (View.loadsAt_vmem h_S1x64x256)) fun _ =>
  .op (.store arg6 (Rect.unit (s := S1x64x256) ![0, 0, 0] S1x64x256.size inb_S1x64x256_S1x64x256_0_0_0)
    (shapeCast S1x64x256 st shapeCasts_S64x256_S1x64x256) Finset.univ (View.stores_vmem_bits_univ h_S1x64x256 rfl) (.inl rfl))
    fun _ => k

/-- The output stored. -/
def storeOut : P F :=
  .op (.load arg7 (Rect.unit (s := S2048x256) ![0, 0] S2048x256.size inb_S2048x256_S2048x256_0_0).toLoadRect
    (View.loadsAt_vmem h_S2048x256)) fun acc =>
  .op (.load arg4 (Rect.unit (s := S1x256x2048) ![0, 0, 0] S1x256x2048.size inb_S1x256x2048_S1x256x2048_0_0_0).toLoadRect
    (View.loadsAt_vmem h_S1x256x2048)) fun _ =>
  .op (.store arg4 (Rect.unit (s := S1x256x2048) ![0, 0, 0] S1x256x2048.size inb_S1x256x2048_S1x256x2048_0_0_0)
    (outOf acc) Finset.univ
    (View.stores_vmem h_S1x256x2048 (harg4.storeExact_slice rfl _ packedbf16_S1x256x2048_S1x256x2048_0_0_0) (fun _ => rfl))
    (.inl rfl)) fun _ => .ret ⟨⟩

/-- Everything after the scales are stored: the accumulator built and turned. -/
def accumulate (st : FVec F S64x256 .f32) : P F :=
  products arg3 arg5 (g := 0) (by omega) fun p0 p1 =>
    setRows arg1 arg7 st p0 p1 16 (by omega)
      (pairsLoop arg1 arg3 arg5 arg7 st 31 (by omega) (storeOut arg4 harg4 arg7))

/-- The body as loops. -/
def loops : P F :=
  amaxLoop arg2 64 (by omega) (broadcast S256x64 (Scalar.ofBits .f32 0x00000000#32)) fun amax =>
    codesLoop arg2 arg5 harg5 (invOf amax) 64 (by omega)
      (storeScales arg6 (turned (scaleOf amax))
        (accumulate arg1 arg3 arg4 harg4 arg5 arg7 (turned (scaleOf amax))))

end

end Cert.KernelIdeal.Body

end
-- ==== Proof.Effects.lean ====
/-
  What the loops leave in the buffers: each loop's effect on the values the memrefs hold, as a function with the loop's
  own recursion.
-/
module

public import Idealize.ShloMosaic.Lib.VecWindow
public import proofs.«01_k».proof.Proof.Program

@[expose] public section

noncomputable section

namespace Cert.KernelIdeal.Body

open Idealize.ShloMosaic
open Facts Facts₀ Shapes1.Facts₀ Shapes2.Facts₀ K0.Facts₀

variable {F : FTy → Type} [FloatOps F]

/-! ## Windows -/

/-- Group `g` of a block of activations or of codes. -/
def groupOf {e : EltTy} (x : Vec F S1x256x8192 e) {g : ℕ} (hg : g < 64) : Vec F S1x256x128 e :=
  VecWindow.window x ![0, 0, 128 * g] S1x256x128.size (group_inb hg)

/-- Group `g` of the weights. -/
def columnsOf (w : Vec F S2048x8192 .fp8e4m3) {g : ℕ} (hg : g < 64) : Vec F S2048x128 .fp8e4m3 :=
  VecWindow.window w ![0, 128 * g] S2048x128.size (columns_inb hg)

/-- Block `n` of the accumulator. -/
def rowsOf (a : Vec F S2048x256 .f32) {n : ℕ} (hn : n < 16) : Vec F S128x256 .f32 :=
  VecWindow.window a ![128 * n, 0] S128x256.size (rows_inb hn)

/-- The weight scale of block `n` and group `g`. -/
def wordOf (s : Vec F S16x64 .f32) {n g : ℕ} (hn : n < 16) (hg : g < 64) : Elt F .f32 :=
  VecWindow.window s ![n, g] S1x1.size (word_inb hn hg) wordIdx

/-! ## The loops' effects -/

/-- The table of largest magnitudes after the last `n` groups. -/
def amaxAfter (x : Vec F S1x256x8192 .bf16) : (n : ℕ) → n ≤ 64 → FVec F S256x64 .f32 → FVec F S256x64 .f32
  | 0, _, amax => amax
  | n + 1, h, amax => amaxAfter x n (by omega) (amaxStep (63 - n) amax (groupOf x (g := 63 - n) (by omega)))

/-- The codes of a group. -/
def groupCodes (x : Vec F S1x256x8192 .bf16) (inv : FVec F S256x64 .f32) {g : ℕ} (hg : g < 64) : Vec F S1x256x128 .fp8e4m3 :=
  codesOf (clip (scaled hg inv (groupOf x hg)))

/-- The block of codes after the last `n` groups. -/
def codesAfter (x : Vec F S1x256x8192 .bf16) (inv : FVec F S256x64 .f32) :
    (n : ℕ) → n ≤ 64 → Vec F S1x256x8192 .fp8e4m3 → Vec F S1x256x8192 .fp8e4m3
  | 0, _, q => q
  | n + 1, h, q =>
    codesAfter x inv n (by omega)
      (VecWindow.put q ![0, 0, 128 * (63 - n)] S1x256x128.size (groupCodes x inv (g := 63 - n) (by omega)))

/-- What the pair of groups `g` and `g + 1` adds to block `n` of the accumulator. -/
def updateOf (s : Vec F S16x64 .f32) {g n : ℕ} (hg : g + 1 < 64) (hn : n < 16) (st : FVec F S64x256 .f32)
    (p0 p1 : FVec F S2048x256 .f32) : FVec F S128x256 .f32 :=
  update hg hn st p0 p1 (wordOf s hn (g := g) (by omega)) (wordOf s hn hg)

/-- The accumulator after its last `n` blocks are set. -/
def setAfter (s : Vec F S16x64 .f32) (st : FVec F S64x256 .f32) (p0 p1 : FVec F S2048x256 .f32) :
    (n : ℕ) → n ≤ 16 → Vec F S2048x256 .f32 → Vec F S2048x256 .f32
  | 0, _, a => a
  | n + 1, h, a =>
    setAfter s st p0 p1 n (by omega)
      (VecWindow.put a ![128 * (15 - n), 0] S128x256.size
        (shapeCast S128x256 (updateOf s (g := 0) (n := 15 - n) (by omega) (by omega) st p0 p1) shapeCasts_S128x256_S128x256))

/-- The accumulator after a pair's contribution is added to its last `n` blocks. -/
def addAfter (s : Vec F S16x64 .f32) {g : ℕ} (hg : g + 1 < 64) (st : FVec F S64x256 .f32) (p0 p1 : FVec F S2048x256 .f32) :
    (n : ℕ) → n ≤ 16 → Vec F S2048x256 .f32 → Vec F S2048x256 .f32
  | 0, _, a => a
  | n + 1, h, a =>
    addAfter s hg st p0 p1 n (by omega)
      (VecWindow.put a ![128 * (15 - n), 0] S128x256.size
        (shapeCast S128x256 (addf (rowsOf a (n := 15 - n) (by omega)) (updateOf s (n := 15 - n) hg (by omega) st p0 p1))
          shapeCasts_S128x256_S128x256))

/-- A group's product. -/
def productOf (w : Vec F S2048x8192 .fp8e4m3) (q : Vec F S1x256x8192 .fp8e4m3) {g : ℕ} (hg : g < 64) : FVec F S2048x256 .f32 :=
  product (columnsOf w hg) (groupOf q hg)

/-- The accumulator after the last `n` pairs. -/
def pairsAfter (s : Vec F S16x64 .f32) (w : Vec F S2048x8192 .fp8e4m3) (q : Vec F S1x256x8192 .fp8e4m3) (st : FVec F S64x256 .f32) :
    (n : ℕ) → n ≤ 31 → Vec F S2048x256 .f32 → Vec F S2048x256 .f32
  | 0, _, a => a
  | n + 1, h, a =>
    pairsAfter s w q st n (by omega)
      (addAfter s (g := 2 * (31 - n)) (by omega) st (productOf w q (g := 2 * (31 - n)) (by omega))
        (productOf w q (g := 2 * (31 - n) + 1) (by omega)) 16 (by omega) a)

/-- The table of largest magnitudes of a block of activations. -/
def table (x : Vec F S1x256x8192 .bf16) : FVec F S256x64 .f32 :=
  amaxAfter x 64 (by omega) (broadcast S256x64 (Scalar.ofBits .f32 0x00000000#32))

/-- The codes of a block of activations, over contents `q`. -/
def codesOver (x : Vec F S1x256x8192 .bf16) (q : Vec F S1x256x8192 .fp8e4m3) : Vec F S1x256x8192 .fp8e4m3 :=
  codesAfter x (invOf (table x)) 64 (by omega) q

/-- The scales of a block of activations, a group's along a row. -/
def scaleRows (x : Vec F S1x256x8192 .bf16) : FVec F S64x256 .f32 := turned (scaleOf (table x))

/-- The accumulator of codes `q`, over contents `a`. -/
def accOver (s : Vec F S16x64 .f32) (w : Vec F S2048x8192 .fp8e4m3) (q : Vec F S1x256x8192 .fp8e4m3) (st : FVec F S64x256 .f32)
    (a : Vec F S2048x256 .f32) : Vec F S2048x256 .f32 :=
  pairsAfter s w q st 31 (by omega)
    (setAfter s st (productOf w q (g := 0) (by omega)) (productOf w q (g := 1) (by omega)) 16 (by omega) a)

end Cert.KernelIdeal.Body

end
-- ==== Proof.Unroll.lean ====
/-
  The printed body is its loops. The statements up to the scales are matched with the loop over the groups' largest
  magnitudes; the rest, over any scales, with the loop over the codes and the loop over the pairs of groups.
-/
module

public import proofs.«01_k».proof.Proof.Program

@[expose] public section

set_option maxRecDepth 16384

noncomputable section

namespace Cert.KernelIdeal.Body

open Idealize.ShloMosaic Idealize.SL.Sem
open Facts Facts₀ Shapes1.Facts₀ Shapes2.Facts₀ K0.Facts₀

variable {F : FTy → Type} [FloatOps F]

/-- Two programs with the same first operation and equal continuations. -/
theorem step {α : Type} {e : TpuEff nD τ sig (Elt F) Λ₀ .tc α} {k k' : α → P F} {A B : P F} (hA : A = .op e k) (hB : B = .op e k')
    (h : ∀ x, k x = k' x) : A = B := by
  rw [hA, hB, funext h]

section
open K0.Facts₀
/-- The statements of the printed body's first window that follow the scales, over the scales, their inverses and the
    first group's values. -/
def afterScales (i : grid0.Coords) (arg1 : Memref sig .tc .smem S16x64 .f32) (harg1 : arg1.IsWhole) (arg2 : Memref sig .tc .vmem S1x256x8192 .bf16) (harg2 : arg2.IsWhole) (arg3 : Memref sig .tc .vmem S2048x8192 .fp8e4m3) (harg3 : arg3.IsWhole) (arg4 : Memref sig .tc .vmem S1x256x2048 .bf16) (harg4 : arg4.IsWhole) (arg5 : Memref sig .tc .vmem S1x256x8192 .fp8e4m3) (harg5 : arg5.IsWhole) (arg6 : Memref sig .tc .vmem S1x64x256 .f32) (harg6 : arg6.IsWhole) (arg7 : Memref sig .tc .vmem S2048x256 .f32) (harg7 : arg7.IsWhole)
    (v773 v778 : FVec F S256x64 .f32) (v788 : FVec F S256x128 .f32) :
    Prog (TpuEff nD τ sig (Elt F) Λ₀ .tc) (Σ' (v1675 : FVec F S64x256 .f32) (v2306 : FVec F S2048x256 .f32) (v2310 : FVec F S2048x256 .f32) (v2354 : FVec F S1x256 .f32) (v2358 : FVec F S1x256 .f32), FVec F S128x256 .f32) := do
  let v823 : FVec F S256x128 .f32 ← k0_part20 i arg1 harg1 arg2 harg2 arg3 harg3 arg4 harg4 arg5 harg5 arg6 harg6 arg7 harg7 v778 v788
  let ⟨v859, v860⟩ : Σ' (v859 : FVec F S256x128 .fp8e4m3), Vec F S1x256x128 .fp8e4m3 ← k0_part21 i arg1 harg1 arg2 harg2 arg3 harg3 arg4 harg4 arg5 harg5 arg6 harg6 arg7 harg7 v778 v823
  let ⟨v896, cst_279, cst_280⟩ : Σ' (v896 : FVec F S256x128 .f32) (cst_279 : F .f32), F .f32 ← k0_part22 i arg1 harg1 arg2 harg2 arg3 harg3 arg4 harg4 arg5 harg5 arg6 harg6 arg7 harg7 v778 v859 v860
  k0_part23 i arg1 harg1 arg2 harg2 arg3 harg3 arg4 harg4 arg5 harg5 arg6 harg6 arg7 harg7 v778 v896 cst_279 cst_280
  let v971 : FVec F S256x128 .fp8e4m3 ← k0_part24 i arg1 harg1 arg2 harg2 arg3 harg3 arg4 harg4 arg5 harg5 arg6 harg6 arg7 harg7 v778
  let ⟨v1005, v1006⟩ : Σ' (v1005 : FVec F S256x128 .f32), FVec F S256x1 .f32 ← k0_part25 i arg1 harg1 arg2 harg2 arg3 harg3 arg4 harg4 arg5 harg5 arg6 harg6 arg7 harg7 v778 v971
  let v1041 : FVec F S256x128 .fp8e4m3 ← k0_part26 i arg1 harg1 arg2 harg2 arg3 harg3 arg4 harg4 arg5 harg5 arg6 harg6 arg7 harg7 v778 v1005 v1006
  let ⟨v1078, cst_384, v1079⟩ : Σ' (v1078 : FVec F S256x128 .f32) (cst_384 : F .f32), FVec F S256x128 .f32 ← k0_part27 i arg1 harg1 arg2 harg2 arg3 harg3 arg4 harg4 arg5 harg5 arg6 harg6 arg7 harg7 v778 v1041
  k0_part28 i arg1 harg1 arg2 harg2 arg3 harg3 arg4 harg4 arg5 harg5 arg6 harg6 arg7 harg7 v778 v1078 cst_384 v1079
  let v1153 : FVec F S256x128 .fp8e4m3 ← k0_part29 i arg1 harg1 arg2 harg2 arg3 harg3 arg4 harg4 arg5 harg5 arg6 harg6 arg7 harg7 v778
  let ⟨v1187, v1189⟩ : Σ' (v1187 : FVec F S256x128 .f32), FVec F S256x128 .f32 ← k0_part30 i arg1 harg1 arg2 harg2 arg3 harg3 arg4 harg4 arg5 harg5 arg6 harg6 arg7 harg7 v778 v1153
  let v1226 : FVec F S1x256x128 .fp8e4m3 ← k0_part31 i arg1 harg1 arg2 harg2 arg3 harg3 arg4 harg4 arg5 harg5 arg6 harg6 arg7 harg7 v778 v1187 v1189
  let ⟨cst_488, v1262⟩ : Σ' (cst_488 : F .f32), FVec F S256x128 .f32 ← k0_part32 i arg1 harg1 arg2 harg2 arg3 harg3 arg4 harg4 arg5 harg5 arg6 harg6 arg7 harg7 v778 v1226
  let v1297 : Vec F S1x256x128 .bf16 ← k0_part33 i arg1 harg1 arg2 harg2 arg3 harg3 arg4 harg4 arg5 harg5 arg6 harg6 arg7 harg7 v778 cst_488 v1262
  let v1335 : FVec F S256x128 .fp8e4m3 ← k0_part34 i arg1 harg1 arg2 harg2 arg3 harg3 arg4 harg4 arg5 harg5 arg6 harg6 arg7 harg7 v778 v1297
  let v1372 : FVec F S256x128 .f32 ← k0_part35 i arg1 harg1 arg2 harg2 arg3 harg3 arg4 harg4 arg5 harg5 arg6 harg6 arg7 harg7 v778 v1335
  k0_part36 i arg1 harg1 arg2 harg2 arg3 harg3 arg4 harg4 arg5 harg5 arg6 harg6 arg7 harg7 v778 v1372
  let ⟨v1444, v1445⟩ : Σ' (v1444 : FVec F S256x128 .f32), FVec F S256x128 .f32 ← k0_part37 i arg1 harg1 arg2 harg2 arg3 harg3 arg4 harg4 arg5 harg5 arg6 harg6 arg7 harg7 v778
  let v1480 : FVec F S256x128 .bf16 ← k0_part38 i arg1 harg1 arg2 harg2 arg3 harg3 arg4 harg4 arg5 harg5 arg6 harg6 arg7 harg7 v778 v1444 v1445
  let v1517 : FVec F S256x128 .fp8e4m3 ← k0_part39 i arg1 harg1 arg2 harg2 arg3 harg3 arg4 harg4 arg5 harg5 arg6 harg6 arg7 harg7 v778 v1480
  let ⟨v1554, cst_655⟩ : Σ' (v1554 : FVec F S256x128 .f32), F .f32 ← k0_part40 i arg1 harg1 arg2 harg2 arg3 harg3 arg4 harg4 arg5 harg5 arg6 harg6 arg7 harg7 v778 v1517
  k0_part41 i arg1 harg1 arg2 harg2 arg3 harg3 arg4 harg4 arg5 harg5 arg6 harg6 arg7 harg7 v778 v1554 cst_655
  let v1628 : FVec F S256x128 .f32 ← k0_part42 i arg1 harg1 arg2 harg2 arg3 harg3 arg4 harg4 arg5 harg5 arg6 harg6 arg7 harg7 v778
  let v1663 : FVec F S256x128 .f32 ← k0_part43 i arg1 harg1 arg2 harg2 arg3 harg3 arg4 harg4 arg5 harg5 arg6 harg6 arg7 harg7 v778 v1628
  let ⟨v1675, v1682, v1686, v1694, v1697⟩ : Σ' (v1675 : FVec F S64x256 .f32) (v1682 : FVec F S2048x256 .f32) (v1686 : FVec F S2048x256 .f32) (v1694 : FVec F S1x256 .f32), FVec F S128x256 .f32 ← k0_part44 i arg1 harg1 arg2 harg2 arg3 harg3 arg4 harg4 arg5 harg5 arg6 harg6 arg7 harg7 v773 v778 v1663
  k0_part45 i arg1 harg1 arg2 harg2 arg3 harg3 arg4 harg4 arg5 harg5 arg6 harg6 arg7 harg7 v1675 v1682 v1686 v1694 v1697
  let ⟨v1780, v1781, v1782⟩ : Σ' (v1780 : FVec F S1x256 .f32) (v1781 : FVec F S1x256 .f32), Elt F .f32 ← k0_part46 i arg1 harg1 arg2 harg2 arg3 harg3 arg4 harg4 arg5 harg5 arg6 harg6 arg7 harg7 v1675 v1682 v1686
  let v1827 : FVec F S128x256 .f32 ← k0_part47 i arg1 harg1 arg2 harg2 arg3 harg3 arg4 harg4 arg5 harg5 arg6 harg6 arg7 harg7 v1675 v1682 v1686 v1780 v1781 v1782
  let ⟨v1867, v1869⟩ : Σ' (v1867 : FVec F S1x256 .f32), FVec F S1x256 .f32 ← k0_part48 i arg1 harg1 arg2 harg2 arg3 harg3 arg4 harg4 arg5 harg5 arg6 harg6 arg7 harg7 v1675 v1682 v1686 v1827
  let ⟨v1910, v1913⟩ : Σ' (v1910 : FVec F S1x256 .f32), FVec F S128x256 .f32 ← k0_part49 i arg1 harg1 arg2 harg2 arg3 harg3 arg4 harg4 arg5 harg5 arg6 harg6 arg7 harg7 v1675 v1682 v1686 v1867 v1869
  k0_part50 i arg1 harg1 arg2 harg2 arg3 harg3 arg4 harg4 arg5 harg5 arg6 harg6 arg7 harg7 v1675 v1682 v1686 v1910 v1913
  let ⟨v1978, v1982, v1990, v1993⟩ : Σ' (v1978 : FVec F S2048x256 .f32) (v1982 : FVec F S2048x256 .f32) (v1990 : FVec F S1x256 .f32), FVec F S128x256 .f32 ← k0_part51 i arg1 harg1 arg2 harg2 arg3 harg3 arg4 harg4 arg5 harg5 arg6 harg6 arg7 harg7 v1675 v1682 v1686
  let ⟨v2033, v2034, v2035⟩ : Σ' (v2033 : FVec F S128x256 .f32) (v2034 : FVec F S128x256 .f32), FVec F S128x256 .f32 ← k0_part52 i arg1 harg1 arg2 harg2 arg3 harg3 arg4 harg4 arg5 harg5 arg6 harg6 arg7 harg7 v1675 v1978 v1982 v1990 v1993
  let v2077 : FVec F S128x256 .f32 ← k0_part53 i arg1 harg1 arg2 harg2 arg3 harg3 arg4 harg4 arg5 harg5 arg6 harg6 arg7 harg7 v1675 v1978 v1982 v2033 v2034 v2035
  let v2117 : FVec F S128x256 .f32 ← k0_part54 i arg1 harg1 arg2 harg2 arg3 harg3 arg4 harg4 arg5 harg5 arg6 harg6 arg7 harg7 v1675 v1978 v1982 v2077
  let v2159 : FVec F S128x256 .f32 ← k0_part55 i arg1 harg1 arg2 harg2 arg3 harg3 arg4 harg4 arg5 harg5 arg6 harg6 arg7 harg7 v1675 v1978 v1982 v2117
  let v2199 : FVec F S128x256 .f32 ← k0_part56 i arg1 harg1 arg2 harg2 arg3 harg3 arg4 harg4 arg5 harg5 arg6 harg6 arg7 harg7 v1675 v1978 v1982 v2159
  let v2239 : FVec F S128x256 .f32 ← k0_part57 i arg1 harg1 arg2 harg2 arg3 harg3 arg4 harg4 arg5 harg5 arg6 harg6 arg7 harg7 v1675 v1978 v1982 v2199
  k0_part58 i arg1 harg1 arg2 harg2 arg3 harg3 arg4 harg4 arg5 harg5 arg6 harg6 arg7 harg7 v1675 v1978 v1982 v2239
  let ⟨v2306, v2310, v2314, v2315, v2317⟩ : Σ' (v2306 : FVec F S2048x256 .f32) (v2310 : FVec F S2048x256 .f32) (v2314 : FVec F S1x256 .f32) (v2315 : FVec F S1x256 .f32), FVec F S1x256 .f32 ← k0_part59 i arg1 harg1 arg2 harg2 arg3 harg3 arg4 harg4 arg5 harg5 arg6 harg6 arg7 harg7 v1675 v1978 v1982
  let ⟨v2354, v2358, v2359⟩ : Σ' (v2354 : FVec F S1x256 .f32) (v2358 : FVec F S1x256 .f32), FVec F S128x256 .f32 ← k0_part60 i arg1 harg1 arg2 harg2 arg3 harg3 arg4 harg4 arg5 harg5 arg6 harg6 arg7 harg7 v1675 v2306 v2310 v2314 v2315 v2317
  pure ⟨v1675, v2306, v2310, v2354, v2358, v2359⟩

end

section
variable {i : grid0.Coords} {arg1 : Memref sig .tc .smem S16x64 .f32} {harg1 : arg1.IsWhole} {arg2 : Memref sig .tc .vmem S1x256x8192 .bf16} {harg2 : arg2.IsWhole} {arg3 : Memref sig .tc .vmem S2048x8192 .fp8e4m3} {harg3 : arg3.IsWhole} {arg4 : Memref sig .tc .vmem S1x256x2048 .bf16} {harg4 : arg4.IsWhole} {arg5 : Memref sig .tc .vmem S1x256x8192 .fp8e4m3} {harg5 : arg5.IsWhole} {arg6 : Memref sig .tc .vmem S1x64x256 .f32} {harg6 : arg6.IsWhole} {arg7 : Memref sig .tc .vmem S2048x256 .f32} {harg7 : arg7.IsWhole}

theorem codes_step {inv : FVec F S256x64 .f32} {n : ℕ} {h : n + 1 ≤ 64} {A k k' : P F}
    (hA : A = loadX arg2 (g := 63 - n) (by omega) fun v =>
      storeC arg5 harg5 (g := 63 - n) (by omega) (codesOf (clip (scaled (g := 63 - n) (by omega) inv v))) k)
    (hk : k = codesLoop arg2 arg5 harg5 inv n (by omega) k') : A = codesLoop arg2 arg5 harg5 inv (n + 1) h k' := by
  rw [hA, hk]; rfl

theorem set_step {st : FVec F S64x256 .f32} {p0 p1 : FVec F S2048x256 .f32} {n : ℕ} {h : n + 1 ≤ 16} {A k k' : P F}
    (hA : A = loadS arg1 (n := 15 - n) (g := 0) (by omega) (by omega) fun s0 =>
      loadS arg1 (n := 15 - n) (g := 1) (by omega) (by omega) fun s1 =>
      storeA arg7 (n := 15 - n) (by omega)
        (shapeCast S128x256 (update (g := 0) (n := 15 - n) (by omega) (by omega) st p0 p1 s0 s1) shapeCasts_S128x256_S128x256) k)
    (hk : k = setRows arg1 arg7 st p0 p1 n (by omega) k') : A = setRows arg1 arg7 st p0 p1 (n + 1) h k' := by
  rw [hA, hk]; rfl

theorem add_step {g : ℕ} {hg : g + 1 < 64} {st : FVec F S64x256 .f32} {p0 p1 : FVec F S2048x256 .f32} {n : ℕ} {h : n + 1 ≤ 16}
    {A k k' : P F}
    (hA : A = loadS arg1 (n := 15 - n) (g := g) (by omega) (by omega) fun s0 =>
      loadS arg1 (n := 15 - n) (g := g + 1) (by omega) (by omega) fun s1 =>
      loadA arg7 (n := 15 - n) (by omega) fun a =>
      storeA arg7 (n := 15 - n) (by omega)
        (shapeCast S128x256 (addf a (update (n := 15 - n) hg (by omega) st p0 p1 s0 s1)) shapeCasts_S128x256_S128x256) k)
    (hk : k = addRows arg1 arg7 hg st p0 p1 n (by omega) k') : A = addRows arg1 arg7 hg st p0 p1 (n + 1) h k' := by
  rw [hA, hk]; rfl

end

/-- The printed body past its first window is some continuation; with it, the statements after the scales are the loop
    over the codes, the scales stored, and the loop over the pairs of groups. -/
theorem after_scales (i : grid0.Coords) (arg1 : Memref sig .tc .smem S16x64 .f32) (harg1 : arg1.IsWhole) (arg2 : Memref sig .tc .vmem S1x256x8192 .bf16) (harg2 : arg2.IsWhole) (arg3 : Memref sig .tc .vmem S2048x8192 .fp8e4m3) (harg3 : arg3.IsWhole) (arg4 : Memref sig .tc .vmem S1x256x2048 .bf16) (harg4 : arg4.IsWhole) (arg5 : Memref sig .tc .vmem S1x256x8192 .fp8e4m3) (harg5 : arg5.IsWhole) (arg6 : Memref sig .tc .vmem S1x64x256 .f32) (harg6 : arg6.IsWhole) (arg7 : Memref sig .tc .vmem S2048x256 .f32) (harg7 : arg7.IsWhole) :
    ∃ K, (cc0__body i arg1 harg1 arg2 harg2 arg3 harg3 arg4 harg4 arg5 harg5 arg6 harg6 arg7 harg7 : P F) = (k0_part301 i arg1 harg1 arg2 harg2 arg3 harg3 arg4 harg4 arg5 harg5 arg6 harg6 arg7 harg7 >>= K)
      ∧ ∀ (v773 v778 : FVec F S256x64 .f32) (v788 : FVec F S256x128 .f32),
        (afterScales i arg1 harg1 arg2 harg2 arg3 harg3 arg4 harg4 arg5 harg5 arg6 harg6 arg7 harg7 v773 v778 v788 >>= K)
          = storeC arg5 harg5 (g := 0) (by omega) (codesOf v788)
              (codesLoop arg2 arg5 harg5 v778 63 (by omega)
                (storeScales arg6 (turned v773) (accumulate arg1 arg3 arg4 harg4 arg5 arg7 (turned v773)))) := by
  refine ⟨_, rfl, fun v773 v778 v788 => ?_⟩
  iterate 2 refine step rfl rfl fun _ => ?_
  iterate 63 refine codes_step rfl ?_
  iterate 6 refine step rfl rfl fun _ => ?_
  iterate 16 refine set_step rfl ?_
  iterate 31
    iterate 4 refine step rfl rfl fun _ => ?_
    iterate 16 refine add_step rfl ?_
  iterate 3 refine step rfl rfl fun _ => ?_
  rfl

/-- The printed body is its loops. -/
theorem body_eq_loops (i : grid0.Coords) (arg1 : Memref sig .tc .smem S16x64 .f32) (harg1 : arg1.IsWhole) (arg2 : Memref sig .tc .vmem S1x256x8192 .bf16) (harg2 : arg2.IsWhole) (arg3 : Memref sig .tc .vmem S2048x8192 .fp8e4m3) (harg3 : arg3.IsWhole) (arg4 : Memref sig .tc .vmem S1x256x2048 .bf16) (harg4 : arg4.IsWhole) (arg5 : Memref sig .tc .vmem S1x256x8192 .fp8e4m3) (harg5 : arg5.IsWhole) (arg6 : Memref sig .tc .vmem S1x64x256 .f32) (harg6 : arg6.IsWhole) (arg7 : Memref sig .tc .vmem S2048x256 .f32) (harg7 : arg7.IsWhole) :
    (cc0__body i arg1 harg1 arg2 harg2 arg3 harg3 arg4 harg4 arg5 harg5 arg6 harg6 arg7 harg7 : P F) = loops arg1 arg2 arg3 arg4 harg4 arg5 harg5 arg6 arg7 := by
  obtain ⟨K, hK, h⟩ := after_scales i arg1 harg1 arg2 harg2 arg3 harg3 arg4 harg4 arg5 harg5 arg6 harg6 arg7 harg7 (F := F)
  rw [hK]
  iterate 64 refine step rfl rfl fun _ => ?_
  refine step rfl rfl fun _ => ?_
  exact h _ _ _

end Cert.KernelIdeal.Body

end
-- ==== Proof.BlockRun.lean ====
/-
  The loops' triples: what each loop leaves in the buffers is its effect on the values the memrefs hold.
-/
module

public import proofs.«01_k».proof.Proof.Access
public import proofs.«01_k».proof.Proof.Effects
public import proofs.«01_k».proof.Proof.Unroll
public import proofs.«01_k».proof.Proof.Gen.KernelIdeal.Frame.Runs

@[expose] public section

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Block
open Facts Facts₀ Shapes1.Facts₀ Shapes2.Facts₀ K0.Facts₀

variable {F : FTy → Type} [FloatOps F]

local notation "𝕄" => MT nD τ sig Unit (Elt F) ℕ (UR sig nD τ) ℕ

/-! ## The loops' triples -/

/-- The weakest precondition of a program of the body. -/
abbrev W (c : Dev nD) (E : Set ℕ) (Q : PUnit.{1} → sProp 𝕄) (p : P F) : sProp 𝕄 :=
  wp frame (wpE (defs₀ (F := F)) Variants.none (c : Thread nD τ) none) E p Q

section
variable (c : Dev nD) (E : Set ℕ)
variable {arg1 : Memref sig .tc .smem S16x64 .f32} {arg2 : Memref sig .tc .vmem S1x256x8192 .bf16}
  {arg3 : Memref sig .tc .vmem S2048x8192 .fp8e4m3} {arg4 : Memref sig .tc .vmem S1x256x2048 .bf16} {harg4 : arg4.IsWhole}
  {arg5 : Memref sig .tc .vmem S1x256x8192 .fp8e4m3} {harg5 : arg5.IsWhole} {arg6 : Memref sig .tc .vmem S1x64x256 .f32}
  {arg7 : Memref sig .tc .vmem S2048x256 .f32}

theorem wp_loadX {Q : PUnit.{1} → sProp 𝕄} {x : Vec F S1x256x8192 .bf16} {g : ℕ} (hg : g < 64) (k : Vec F S1x256x128 .bf16 → P F) :
    (owns (c : Thread nD τ) arg2 fullShare x : sProp 𝕄)
      ⊢ iprop((owns (c : Thread nD τ) arg2 fullShare x -∗ W c E Q (k (groupOf x hg))) -∗ W c E Q (loadX arg2 hg k)) :=
  wp_load_owned (defs := defs₀ (F := F)) _ _ _ _

theorem wp_loadC {Q : PUnit.{1} → sProp 𝕄} {q : Vec F S1x256x8192 .fp8e4m3} {g : ℕ} (hg : g < 64) (k : Vec F S1x256x128 .fp8e4m3 → P F) :
    (owns (c : Thread nD τ) arg5 fullShare q : sProp 𝕄)
      ⊢ iprop((owns (c : Thread nD τ) arg5 fullShare q -∗ W c E Q (k (groupOf q hg))) -∗ W c E Q (loadC arg5 hg k)) :=
  wp_load_owned (defs := defs₀ (F := F)) _ _ _ _

theorem wp_loadW {Q : PUnit.{1} → sProp 𝕄} {w : Vec F S2048x8192 .fp8e4m3} {g : ℕ} (hg : g < 64) (k : Vec F S2048x128 .fp8e4m3 → P F) :
    (owns (c : Thread nD τ) arg3 fullShare w : sProp 𝕄)
      ⊢ iprop((owns (c : Thread nD τ) arg3 fullShare w -∗ W c E Q (k (columnsOf w hg))) -∗ W c E Q (loadW arg3 hg k)) :=
  wp_load_owned (defs := defs₀ (F := F)) _ _ _ _

theorem wp_loadA {Q : PUnit.{1} → sProp 𝕄} {a : Vec F S2048x256 .f32} {n : ℕ} (hn : n < 16) (k : Vec F S128x256 .f32 → P F) :
    (owns (c : Thread nD τ) arg7 fullShare a : sProp 𝕄)
      ⊢ iprop((owns (c : Thread nD τ) arg7 fullShare a -∗ W c E Q (k (rowsOf a hn))) -∗ W c E Q (loadA arg7 hn k)) :=
  wp_load_owned (defs := defs₀ (F := F)) _ _ _ _

theorem wp_loadS {Q : PUnit.{1} → sProp 𝕄} {s : Vec F S16x64 .f32} {n g : ℕ} (hn : n < 16) (hg : g < 64) (k : Elt F .f32 → P F) :
    (owns (c : Thread nD τ) arg1 fullShare s : sProp 𝕄)
      ⊢ iprop((owns (c : Thread nD τ) arg1 fullShare s -∗ W c E Q (k (wordOf s hn hg))) -∗ W c E Q (loadS arg1 hn hg k)) :=
  wp_load_owned (defs := defs₀ (F := F)) (Γ := .empty) (s := S16x64) (e := .f32) (α := PUnit) (m := arg1) (q := fullShare) (x := s)
    (off := ![n, g]) (size := S1x1.size) (inb := word_inb hn hg)
    (hl := View.loadsAt_rect (View.loads_smem_one rfl numel1_S1x1)) (Q := Q)
    (k := fun f : S1x1.Idx → Elt F .f32 => k (f wordIdx)) Variants.none (c : Thread nD τ) none E

theorem wp_storeC {Q : PUnit.{1} → sProp 𝕄} {q : Vec F S1x256x8192 .fp8e4m3} {g : ℕ} (hg : g < 64) (v : Vec F S1x256x128 .fp8e4m3) (k : P F) :
    (owns (c : Thread nD τ) arg5 fullShare q : sProp 𝕄)
      ⊢ iprop((owns (c : Thread nD τ) arg5 fullShare (VecWindow.put q ![0, 0, 128 * g] S1x256x128.size v) -∗ W c E Q (k)) -∗ W c E Q (storeC arg5 harg5 hg v k)) :=  by
  unfold storeC
  iintro H Hk
  iapply (wp_loadC c E) $$ H
  iintro H
  iapply (wp_store_owned (defs := defs₀ (F := F)) _ _ _ _) $$ H
  iexact Hk

theorem wp_storeA {Q : PUnit.{1} → sProp 𝕄} {a : Vec F S2048x256 .f32} {n : ℕ} (hn : n < 16) (v : Vec F S128x256 .f32) (k : P F) :
    (owns (c : Thread nD τ) arg7 fullShare a : sProp 𝕄)
      ⊢ iprop((owns (c : Thread nD τ) arg7 fullShare (VecWindow.put a ![128 * n, 0] S128x256.size v) -∗ W c E Q (k)) -∗ W c E Q (storeA arg7 hn v k)) :=  by
  unfold storeA
  iintro H Hk
  iapply (wp_loadA c E) $$ H
  iintro H
  iapply (wp_store_owned (defs := defs₀ (F := F)) _ _ _ _) $$ H
  iexact Hk

theorem wp_amaxLoop {Q : PUnit.{1} → sProp 𝕄} {x : Vec F S1x256x8192 .bf16} (k : FVec F S256x64 .f32 → P F) (n : ℕ) (h : n ≤ 64) (amax : FVec F S256x64 .f32) :
    (owns (c : Thread nD τ) arg2 fullShare x : sProp 𝕄)
      ⊢ iprop((owns (c : Thread nD τ) arg2 fullShare x -∗ W c E Q (k (amaxAfter x n h amax))) -∗ W c E Q (amaxLoop arg2 n h amax k)) :=  by
  induction n generalizing amax with
  | zero =>
    iintro H Hk
    iapply Hk; iexact H
  | succ n ih =>
    iintro H Hk
    iapply (wp_loadX c E) $$ H
    iintro H
    iapply (ih _ _) $$ H
    iexact Hk

theorem wp_codesLoop {Q : PUnit.{1} → sProp 𝕄} {x : Vec F S1x256x8192 .bf16} {q : Vec F S1x256x8192 .fp8e4m3} (inv : FVec F S256x64 .f32) (k : P F) (n : ℕ) (h : n ≤ 64) :
    (iprop(owns (c : Thread nD τ) arg2 fullShare x ∗ owns (c : Thread nD τ) arg5 fullShare q) : sProp 𝕄)
      ⊢ iprop((iprop(owns (c : Thread nD τ) arg2 fullShare x ∗ owns (c : Thread nD τ) arg5 fullShare (codesAfter x inv n h q)) -∗ W c E Q (k)) -∗ W c E Q (codesLoop arg2 arg5 harg5 inv n h k)) :=  by
  induction n generalizing q with
  | zero =>
    iintro H Hk
    iapply Hk; iexact H
  | succ n ih =>
    iintro ⟨H, H5⟩ Hk
    iapply (wp_loadX c E) $$ H
    iintro H
    iapply (wp_storeC c E) $$ H5
    iintro H5
    iapply (ih _) $$ [H H5]
    · isplitl [H]
      · iexact H
      iexact H5
    iexact Hk

theorem wp_setRows {Q : PUnit.{1} → sProp 𝕄} {s : Vec F S16x64 .f32} {a : Vec F S2048x256 .f32} (st : FVec F S64x256 .f32) (p0 p1 : FVec F S2048x256 .f32) (k : P F) (n : ℕ) (h : n ≤ 16) :
    (iprop(owns (c : Thread nD τ) arg1 fullShare s ∗ owns (c : Thread nD τ) arg7 fullShare a) : sProp 𝕄)
      ⊢ iprop((iprop(owns (c : Thread nD τ) arg1 fullShare s ∗ owns (c : Thread nD τ) arg7 fullShare (setAfter s st p0 p1 n h a)) -∗ W c E Q (k)) -∗ W c E Q (setRows arg1 arg7 st p0 p1 n h k)) :=  by
  induction n generalizing a with
  | zero =>
    iintro H Hk
    iapply Hk; iexact H
  | succ n ih =>
    iintro ⟨H, H7⟩ Hk
    iapply (wp_loadS c E) $$ H
    iintro H
    iapply (wp_loadS c E) $$ H
    iintro H
    iapply (wp_storeA c E) $$ H7
    iintro H7
    iapply (ih _) $$ [H H7]
    · isplitl [H]
      · iexact H
      iexact H7
    iexact Hk

theorem wp_addRows {Q : PUnit.{1} → sProp 𝕄} {s : Vec F S16x64 .f32} {a : Vec F S2048x256 .f32} {g : ℕ} (hg : g + 1 < 64) (st : FVec F S64x256 .f32) (p0 p1 : FVec F S2048x256 .f32) (k : P F) (n : ℕ) (h : n ≤ 16) :
    (iprop(owns (c : Thread nD τ) arg1 fullShare s ∗ owns (c : Thread nD τ) arg7 fullShare a) : sProp 𝕄)
      ⊢ iprop((iprop(owns (c : Thread nD τ) arg1 fullShare s ∗ owns (c : Thread nD τ) arg7 fullShare (addAfter s hg st p0 p1 n h a)) -∗ W c E Q (k)) -∗ W c E Q (addRows arg1 arg7 hg st p0 p1 n h k)) :=  by
  induction n generalizing a with
  | zero =>
    iintro H Hk
    iapply Hk; iexact H
  | succ n ih =>
    iintro ⟨H, H7⟩ Hk
    iapply (wp_loadS c E) $$ H
    iintro H
    iapply (wp_loadS c E) $$ H
    iintro H
    iapply (wp_loadA c E) $$ H7
    iintro H7
    iapply (wp_storeA c E) $$ H7
    iintro H7
    iapply (ih _) $$ [H H7]
    · isplitl [H]
      · iexact H
      iexact H7
    iexact Hk

theorem wp_products {Q : PUnit.{1} → sProp 𝕄} {w : Vec F S2048x8192 .fp8e4m3} {q : Vec F S1x256x8192 .fp8e4m3} {g : ℕ} (hg : g + 1 < 64) (k : FVec F S2048x256 .f32 → FVec F S2048x256 .f32 → P F) :
    (iprop(owns (c : Thread nD τ) arg3 fullShare w ∗ owns (c : Thread nD τ) arg5 fullShare q) : sProp 𝕄)
      ⊢ iprop((iprop(owns (c : Thread nD τ) arg3 fullShare w ∗ owns (c : Thread nD τ) arg5 fullShare q) -∗ W c E Q (k (productOf w q (g := g) (by omega)) (productOf w q hg))) -∗ W c E Q (products arg3 arg5 hg k)) :=  by
  unfold products
  iintro ⟨H3, H5⟩ Hk
  iapply (wp_loadW c E) $$ H3
  iintro H3
  iapply (wp_loadC c E) $$ H5
  iintro H5
  iapply (wp_loadW c E) $$ H3
  iintro H3
  iapply (wp_loadC c E) $$ H5
  iintro H5
  iapply Hk
  isplitl [H3]
  · iexact H3
  iexact H5

theorem wp_pairsLoop {Q : PUnit.{1} → sProp 𝕄} {s : Vec F S16x64 .f32} {w : Vec F S2048x8192 .fp8e4m3} {q : Vec F S1x256x8192 .fp8e4m3} {a : Vec F S2048x256 .f32} (st : FVec F S64x256 .f32) (k : P F) (n : ℕ) (h : n ≤ 31) :
    (iprop(owns (c : Thread nD τ) arg1 fullShare s ∗ owns (c : Thread nD τ) arg3 fullShare w ∗ owns (c : Thread nD τ) arg5 fullShare q ∗ owns (c : Thread nD τ) arg7 fullShare a) : sProp 𝕄)
      ⊢ iprop((iprop(owns (c : Thread nD τ) arg1 fullShare s ∗ owns (c : Thread nD τ) arg3 fullShare w ∗ owns (c : Thread nD τ) arg5 fullShare q ∗ owns (c : Thread nD τ) arg7 fullShare (pairsAfter s w q st n h a)) -∗ W c E Q (k)) -∗ W c E Q (pairsLoop arg1 arg3 arg5 arg7 st n h k)) :=  by
  induction n generalizing a with
  | zero =>
    iintro H Hk
    iapply Hk; iexact H
  | succ n ih =>
    iintro ⟨H1, H3, H5, H7⟩ Hk
    iapply (wp_products c E) $$ [H3 H5]
    · isplitl [H3]
      · iexact H3
      iexact H5
    iintro ⟨H3, H5⟩
    iapply (wp_addRows c E) $$ [H1 H7]
    · isplitl [H1]
      · iexact H1
      iexact H7
    iintro ⟨H1, H7⟩
    iapply (ih _) $$ [H1 H3 H5 H7]
    · isplitl [H1]
      · iexact H1
      isplitl [H3]
      · iexact H3
      isplitl [H5]
      · iexact H5
      iexact H7
    iexact Hk

end

end Cert.KernelIdeal.Body

end
-- ==== Proof.Closed.lean ====
/-
  What the loops leave, at an index: the codes of a block are those of the index's group, the accumulator's element is
  what the pairs add to it; neither depends on what the buffer held before.
-/
module

public import Idealize.ShloMosaic.Lib.Pipeline.Value
public import Idealize.ShloMosaic.Lib.PointwiseCore
public import proofs.«01_k».proof.Proof.Effects

@[expose] public section

noncomputable section

namespace Cert.KernelIdeal.Body

open Idealize.ShloMosaic
open Facts Facts₀ Shapes1.Facts₀ Shapes2.Facts₀ K0.Facts₀

variable {F : FTy → Type} [FloatOps F]

/-- The group of a column. -/
theorem group_lt (j : S1x256x8192.Idx) : (j 2).val / 128 < 64 := by
  have : (j 2).val < 8192 := (j 2).isLt
  omega

/-- The place of an index within its group. -/
def inGroup (j : S1x256x8192.Idx) : S1x256x128.Idx := ix3 (j 0) (j 1) ⟨(j 2).val % 128, Nat.mod_lt _ (by decide)⟩

/-- The block of an accumulator's row. -/
theorem block_lt (j : S2048x256.Idx) : (j 0).val / 128 < 16 := by
  have : (j 0).val < 2048 := (j 0).isLt
  omega

/-- The place of an index within its block of rows. -/
def inBlock (j : S2048x256.Idx) : S128x256.Idx := ix2 ⟨(j 0).val % 128, Nat.mod_lt _ (by decide)⟩ (j 1)

theorem put_group {e : EltTy} (q : Vec F S1x256x8192 e) (g : ℕ) (v : Vec F S1x256x128 e) (j : S1x256x8192.Idx) :
    VecWindow.put q ![0, 0, 128 * g] S1x256x128.size v j = if (j 2).val / 128 = g then v (inGroup j) else q j := by
  have h0 : (j 0).val < 1 := (j 0).isLt
  have h1 : (j 1).val < 256 := (j 1).isLt
  unfold VecWindow.put
  by_cases hg : (j 2).val / 128 = g
  · rw [if_pos hg, dif_pos (by intro a; fin_cases a <;> simp <;> omega)]
    congr 1
    funext a
    apply Fin.ext
    fin_cases a <;> simp [Rect.unitLocal, inGroup, ix3] <;> omega
  · rw [if_neg hg, dif_neg]
    intro h
    have := h 2
    simp at this
    omega

theorem put_block (q : Vec F S2048x256 .f32) (n : ℕ) (v : Vec F S128x256 .f32) (j : S2048x256.Idx) :
    VecWindow.put q ![128 * n, 0] S128x256.size v j = if (j 0).val / 128 = n then v (inBlock j) else q j := by
  have h1 : (j 1).val < 256 := (j 1).isLt
  unfold VecWindow.put
  by_cases hg : (j 0).val / 128 = n
  · rw [if_pos hg, dif_pos (by intro a; fin_cases a <;> simp <;> omega)]
    congr 1
    funext a
    apply Fin.ext
    fin_cases a <;> simp [Rect.unitLocal, inBlock, ix2] <;> omega
  · rw [if_neg hg, dif_neg]
    intro h
    have := h 0
    simp at this
    omega

theorem rowsOf_inBlock (a : Vec F S2048x256 .f32) {n : ℕ} (hn : n < 16) (j : S2048x256.Idx) (h : (j 0).val / 128 = n) :
    rowsOf a hn (inBlock j) = a j := by
  unfold rowsOf VecWindow.window
  congr 1
  funext i
  apply Fin.ext
  fin_cases i <;> simp [Rect.emb, Rect.unit, inBlock, ix2] <;> omega

theorem groupOf_inGroup {e : EltTy} (x : Vec F S1x256x8192 e) {g : ℕ} (hg : g < 64) (j : S1x256x8192.Idx) (h : (j 2).val / 128 = g) :
    groupOf x hg (inGroup j) = x j := by
  unfold groupOf VecWindow.window
  congr 1
  funext i
  apply Fin.ext
  fin_cases i <;> simp [Rect.emb, Rect.unit, inGroup, ix3] <;> omega

theorem codesAfter_apply (x : Vec F S1x256x8192 .bf16) (inv : FVec F S256x64 .f32) (n : ℕ) (h : n ≤ 64)
    (q : Vec F S1x256x8192 .fp8e4m3) (j : S1x256x8192.Idx) :
    codesAfter x inv n h q j = if 64 ≤ (j 2).val / 128 + n then groupCodes x inv (group_lt j) (inGroup j) else q j := by
  induction n generalizing q with
  | zero =>
    rw [if_neg (by have := group_lt j; omega)]
    rfl
  | succ n ih =>
    have hj := group_lt j
    rw [codesAfter, ih, put_group]
    by_cases h1 : 64 ≤ (j 2).val / 128 + n
    · rw [if_pos h1, if_pos (by omega)]
    · rw [if_neg h1]
      by_cases h2 : (j 2).val / 128 = 63 - n
      · rw [if_pos h2, if_pos (by omega)]
        congr 1
        simp only [h2]
      · rw [if_neg h2, if_neg (by omega)]

/-- The codes of a block at an index. -/
theorem codesOver_apply (x : Vec F S1x256x8192 .bf16) (q : Vec F S1x256x8192 .fp8e4m3) (j : S1x256x8192.Idx) :
    codesOver x q j = groupCodes x (invOf (table x)) (group_lt j) (inGroup j) := by
  rw [codesOver, codesAfter_apply, if_pos (by omega)]

theorem codesOver_eq (x : Vec F S1x256x8192 .bf16) (q q' : Vec F S1x256x8192 .fp8e4m3) : codesOver x q = codesOver x q' := by
  funext j
  rw [codesOver_apply, codesOver_apply]

theorem setAfter_apply (s : Vec F S16x64 .f32) (st : FVec F S64x256 .f32) (p0 p1 : FVec F S2048x256 .f32) (n : ℕ) (h : n ≤ 16)
    (a : Vec F S2048x256 .f32) (j : S2048x256.Idx) :
    setAfter s st p0 p1 n h a j
      = if 16 ≤ (j 0).val / 128 + n then updateOf s (g := 0) (by omega) (block_lt j) st p0 p1 (inBlock j) else a j := by
  induction n generalizing a with
  | zero =>
    rw [if_neg (by have := block_lt j; omega)]
    rfl
  | succ n ih =>
    have hj := block_lt j
    rw [setAfter, ih, put_block]
    by_cases h1 : 16 ≤ (j 0).val / 128 + n
    · rw [if_pos h1, if_pos (by omega)]
    · rw [if_neg h1]
      by_cases h2 : (j 0).val / 128 = 15 - n
      · rw [if_pos h2, if_pos (by omega), shapeCast_self]
        congr 1
        simp only [h2]
      · rw [if_neg h2, if_neg (by omega)]

theorem addAfter_apply (s : Vec F S16x64 .f32) {g : ℕ} (hg : g + 1 < 64) (st : FVec F S64x256 .f32) (p0 p1 : FVec F S2048x256 .f32)
    (n : ℕ) (h : n ≤ 16) (a : Vec F S2048x256 .f32) (j : S2048x256.Idx) :
    addAfter s hg st p0 p1 n h a j
      = if 16 ≤ (j 0).val / 128 + n then FloatOps.addf (a j) (updateOf s hg (block_lt j) st p0 p1 (inBlock j)) else a j := by
  induction n generalizing a with
  | zero =>
    rw [if_neg (by have := block_lt j; omega)]
    rfl
  | succ n ih =>
    have hj := block_lt j
    rw [addAfter, ih, put_block]
    by_cases h1 : 16 ≤ (j 0).val / 128 + n
    · rw [if_pos h1, if_neg (show ¬ (j 0).val / 128 = 15 - n by omega), if_pos (by omega)]
    · rw [if_neg h1]
      by_cases h2 : (j 0).val / 128 = 15 - n
      · rw [if_pos h2, if_pos (by omega), shapeCast_self]
        show FloatOps.addf (rowsOf a _ (inBlock j)) _ = _
        rw [rowsOf_inBlock a _ j h2]
        congr 1
        simp only [h2]
      · rw [if_neg h2, if_neg (by omega)]

theorem accOver_eq (s : Vec F S16x64 .f32) (w : Vec F S2048x8192 .fp8e4m3) (q : Vec F S1x256x8192 .fp8e4m3) (st : FVec F S64x256 .f32)
    (a a' : Vec F S2048x256 .f32) : accOver s w q st a = accOver s w q st a' := by
  unfold accOver
  congr 1
  funext j
  rw [setAfter_apply, setAfter_apply, if_pos (by omega), if_pos (by omega)]

end Cert.KernelIdeal.Body

end
-- ==== Proof.BodyTriple.lean ====
/-
  The body's triple: from the three inputs' blocks, the output block, the block of codes and the block of scales are
  functions of the inputs alone.
-/
module

public import proofs.«01_k».proof.Proof.BlockRun
public import proofs.«01_k».proof.Proof.Closed

@[expose] public section

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Block
open Facts Facts₀ Shapes1.Facts₀ Shapes2.Facts₀ K0.Facts₀

variable {F : FTy → Type} [FloatOps F]

local notation "𝕄" => MT nD τ sig Unit (Elt F) ℕ (UR sig nD τ) ℕ

/-! ## What a block computes -/

/-- Contents nothing depends on. -/
def anyOf {s : Shape} {e : EltTy} : Vec F s e := fun _ => Classical.choice inferInstance

/-- The block of codes. -/
def codesBlock (x : Vec F S1x256x8192 .bf16) : Vec F S1x256x8192 .fp8e4m3 := codesOver x anyOf

/-- The block of scales. -/
def scalesBlock (x : Vec F S1x256x8192 .bf16) : Vec F S1x64x256 .f32 :=
  shapeCast S1x64x256 (scaleRows x) shapeCasts_S64x256_S1x64x256

/-- The accumulator of a block. -/
def accBlock (s : Vec F S16x64 .f32) (x : Vec F S1x256x8192 .bf16) (w : Vec F S2048x8192 .fp8e4m3) : Vec F S2048x256 .f32 :=
  accOver s w (codesBlock x) (scaleRows x) anyOf

/-- The output block. -/
def outBlock (s : Vec F S16x64 .f32) (x : Vec F S1x256x8192 .bf16) (w : Vec F S2048x8192 .fp8e4m3) : Vec F S1x256x2048 .bf16 :=
  outOf (accBlock s x w)

/-- A put over the whole buffer is the payload. -/
theorem put_whole {s : Shape} {α : Type} (x : s.Idx → α) (off : Fin s.rank → ℕ) (h : ∀ a, off a = 0) (w : s.Idx → α) :
    VecWindow.put x off s.size w = w := by
  funext y
  unfold VecWindow.put
  rw [dif_pos fun a => by have := (y a).isLt; have := h a; omega]
  congr 1
  funext a
  apply Fin.ext
  simp [Rect.unitLocal, h a]

/-- A window over the whole buffer is the buffer. -/
theorem window_whole {s : Shape} {α : Type} (x : s.Idx → α) (off : Fin s.rank → ℕ) (h : ∀ a, off a = 0)
    (inb : ∀ a, off a + s.size a ≤ s.size a) : VecWindow.window x off s.size inb = x := by
  funext y
  unfold VecWindow.window
  congr 1
  funext a
  apply Fin.ext
  simp [Rect.emb, Rect.unit, h a]

theorem zeros3 : ∀ a, (![0, 0, 0] : Fin 3 → ℕ) a = 0 := by decide
theorem zeros2 : ∀ a, (![0, 0] : Fin 2 → ℕ) a = 0 := by decide

section
variable (c : Dev nD) (E : Set ℕ)
variable {arg1 : Memref sig .tc .smem S16x64 .f32} {arg2 : Memref sig .tc .vmem S1x256x8192 .bf16}
  {arg3 : Memref sig .tc .vmem S2048x8192 .fp8e4m3} {arg4 : Memref sig .tc .vmem S1x256x2048 .bf16} {harg4 : arg4.IsWhole}
  {arg5 : Memref sig .tc .vmem S1x256x8192 .fp8e4m3} {harg5 : arg5.IsWhole} {arg6 : Memref sig .tc .vmem S1x64x256 .f32}
  {arg7 : Memref sig .tc .vmem S2048x256 .f32}

theorem wp_storeScales {Q : PUnit.{1} → sProp 𝕄} {d : Vec F S1x64x256 .f32} (st : FVec F S64x256 .f32) (k : P F) :
    (owns (c : Thread nD τ) arg6 fullShare d : sProp 𝕄)
      ⊢ iprop((owns (c : Thread nD τ) arg6 fullShare (shapeCast S1x64x256 st shapeCasts_S64x256_S1x64x256) -∗ W c E Q k)
        -∗ W c E Q (storeScales arg6 st k)) := by
  unfold storeScales
  iintro H Hk
  iapply (wp_load_owned (defs := defs₀ (F := F)) _ _ _ _) $$ H
  iintro H
  iapply (wp_store_owned (defs := defs₀ (F := F)) _ _ _ _) $$ H
  rw [put_whole (s := S1x64x256) d _ zeros3]
  iexact Hk

theorem wp_storeOut {Q : PUnit.{1} → sProp 𝕄} {d : Vec F S1x256x2048 .bf16} {a : Vec F S2048x256 .f32} :
    (iprop(owns (c : Thread nD τ) arg4 fullShare d ∗ owns (c : Thread nD τ) arg7 fullShare a) : sProp 𝕄)
      ⊢ iprop((iprop(owns (c : Thread nD τ) arg4 fullShare (outOf a) ∗ owns (c : Thread nD τ) arg7 fullShare a) -∗ Q ⟨⟩)
        -∗ W c E Q (storeOut arg4 harg4 arg7)) := by
  unfold storeOut
  iintro ⟨H4, H7⟩ Hk
  iapply (wp_load_owned (defs := defs₀ (F := F)) _ _ _ _) $$ H7
  iintro H7
  iapply (wp_load_owned (defs := defs₀ (F := F)) _ _ _ _) $$ H4
  iintro H4
  iapply (wp_store_owned (defs := defs₀ (F := F)) _ _ _ _) $$ H4
  rw [put_whole (s := S1x256x2048) d _ zeros3, window_whole (s := S2048x256) a _ zeros2]
  iintro H4
  rw [wp_ret]; imodintro
  iapply Hk
  isplitl [H4]
  · iexact H4
  iexact H7

theorem wp_accumulate {Q : PUnit.{1} → sProp 𝕄} {s : Vec F S16x64 .f32} {w : Vec F S2048x8192 .fp8e4m3}
    {q : Vec F S1x256x8192 .fp8e4m3} {d : Vec F S1x256x2048 .bf16} {a : Vec F S2048x256 .f32} (st : FVec F S64x256 .f32) :
    (iprop(owns (c : Thread nD τ) arg1 fullShare s ∗ owns (c : Thread nD τ) arg3 fullShare w ∗ owns (c : Thread nD τ) arg5 fullShare q
        ∗ owns (c : Thread nD τ) arg4 fullShare d ∗ owns (c : Thread nD τ) arg7 fullShare a) : sProp 𝕄)
      ⊢ iprop((iprop(owns (c : Thread nD τ) arg1 fullShare s ∗ owns (c : Thread nD τ) arg3 fullShare w ∗ owns (c : Thread nD τ) arg5 fullShare q
        ∗ owns (c : Thread nD τ) arg4 fullShare (outOf (accOver s w q st a)) ∗ owns (c : Thread nD τ) arg7 fullShare (accOver s w q st a)) -∗ Q ⟨⟩)
        -∗ W c E Q (accumulate arg1 arg3 arg4 harg4 arg5 arg7 st)) := by
  unfold accumulate
  iintro ⟨H1, H3, H5, H4, H7⟩ Hk
  iapply (wp_products c E) $$ [H3 H5]
  · isplitl [H3]
    · iexact H3
    iexact H5
  iintro ⟨H3, H5⟩
  iapply (wp_setRows c E) $$ [H1 H7]
  · isplitl [H1]
    · iexact H1
    iexact H7
  iintro ⟨H1, H7⟩
  iapply (wp_pairsLoop c E) $$ [H1 H3 H5 H7]
  · isplitl [H1]
    · iexact H1
    isplitl [H3]
    · iexact H3
    isplitl [H5]
    · iexact H5
    iexact H7
  iintro ⟨H1, H3, H5, H7⟩
  iapply (wp_storeOut c E) $$ [H4 H7]
  · isplitl [H4]
    · iexact H4
    iexact H7
  iintro ⟨H4, H7⟩
  iapply Hk
  isplitl [H1]
  · iexact H1
  isplitl [H3]
  · iexact H3
  isplitl [H5]
  · iexact H5
  isplitl [H4]
  · iexact H4
  iexact H7

/-- The body's triple. -/
theorem wp_body {Q : PUnit.{1} → sProp 𝕄} (i : grid0.Coords) (harg1 : arg1.IsWhole) (harg2 : arg2.IsWhole) (harg3 : arg3.IsWhole)
    (harg6 : arg6.IsWhole) (harg7 : arg7.IsWhole) (s : Vec F S16x64 .f32) (x : Vec F S1x256x8192 .bf16) (w : Vec F S2048x8192 .fp8e4m3)
    {d4 : Vec F S1x256x2048 .bf16} {d5 : Vec F S1x256x8192 .fp8e4m3} {d6 : Vec F S1x64x256 .f32} {d7 : Vec F S2048x256 .f32} :
    (iprop(owns (c : Thread nD τ) arg1 fullShare s ∗ owns (c : Thread nD τ) arg2 fullShare x ∗ owns (c : Thread nD τ) arg3 fullShare w
        ∗ owns (c : Thread nD τ) arg4 fullShare d4 ∗ owns (c : Thread nD τ) arg5 fullShare d5 ∗ owns (c : Thread nD τ) arg6 fullShare d6
        ∗ owns (c : Thread nD τ) arg7 fullShare d7) : sProp 𝕄)
      ⊢ iprop((iprop(owns (c : Thread nD τ) arg1 fullShare s ∗ owns (c : Thread nD τ) arg2 fullShare x ∗ owns (c : Thread nD τ) arg3 fullShare w
        ∗ owns (c : Thread nD τ) arg4 fullShare (outBlock s x w) ∗ owns (c : Thread nD τ) arg5 fullShare (codesBlock x)
        ∗ owns (c : Thread nD τ) arg6 fullShare (scalesBlock x) ∗ owns (c : Thread nD τ) arg7 fullShare (accBlock s x w)) -∗ Q ⟨⟩)
        -∗ W c E Q (cc0__body i arg1 harg1 arg2 harg2 arg3 harg3 arg4 harg4 arg5 harg5 arg6 harg6 arg7 harg7)) := by
  rw [body_eq_loops]
  unfold loops
  iintro ⟨H1, H2, H3, H4, H5, H6, H7⟩ Hk
  iapply (wp_amaxLoop c E) $$ H2
  iintro H2
  iapply (wp_codesLoop c E) $$ [H2 H5]
  · isplitl [H2]
    · iexact H2
    iexact H5
  iintro ⟨H2, H5⟩
  iapply (wp_storeScales c E) $$ H6
  iintro H6
  rw [show codesAfter x (invOf (amaxAfter x 64 (by omega) (broadcast S256x64 (Scalar.ofBits .f32 0x00000000#32)))) 64 (by omega) d5
      = codesBlock x from codesOver_eq x d5 anyOf]
  iapply (wp_accumulate c E) $$ [H1 H3 H5 H4 H7]
  · isplitl [H1]
    · iexact H1
    isplitl [H3]
    · iexact H3
    isplitl [H5]
    · iexact H5
    isplitl [H4]
    · iexact H4
    iexact H7
  rw [show accOver s w (codesBlock x) (turned (scaleOf (amaxAfter x 64 (by omega) (broadcast S256x64 (Scalar.ofBits .f32 0x00000000#32))))) d7
      = accBlock s x w from accOver_eq s w _ _ d7 anyOf]
  iintro ⟨H1, H3, H5, H4, H7⟩
  iapply Hk
  isplitl [H1]
  · iexact H1
  isplitl [H2]
  · iexact H2
  isplitl [H3]
  · iexact H3
  isplitl [H4]
  · iexact H4
  isplitl [H5]
  · iexact H5
  isplitl [H6]
  · iexact H6
  iexact H7

end

end Cert.KernelIdeal.Body

end
-- ==== Proof.KernelRun.lean ====
/-
  The kernel's run with its outputs named: every point's output blocks are functions of the point's input blocks.
-/
module

public import proofs.«01_k».proof.Proof.BodyTriple
public import Idealize.ShloMosaic.Lib.Claim

@[expose] public section

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core `c`: the arrays as the region finds them (`V`); after the body at
    point `t` each input's buffer at its block and the outputs' at what the block computes; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => Body.outBlock (iblk m c 0 t) (iblk m c 1 t) (iblk m c 2 t)
    | ⟨4, _⟩ => Body.codesBlock (iblk m c 1 t)
    | ⟨5, _⟩ => Body.scalesBlock (iblk m c 1 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = Body.outBlock (iblk m c 0 t) (iblk m c 1 t) (iblk m c 2 t) := by dsimp only [dats]
theorem after0_4 (c : Dev nD) (t : Fin cfg0.N) : (dats m 0 c).after 4 t = Body.codesBlock (iblk m c 1 t) := by dsimp only [dats]
theorem after0_5 (c : Dev nD) (t : Fin cfg0.N) : (dats m 0 c).after 5 t = Body.scalesBlock (iblk m c 1 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨⟨%d7, H7⟩, Hg⟩, Ho, ⟨%d0, H0⟩, ⟨%d1, H1⟩, ⟨%d2, H2⟩, ⟨%d3, H3⟩, ⟨%d4, H4⟩, ⟨%d5, H5⟩⟩
  iapply (Body.wp_body c Set.univ (grid0.coords t) (hs0_0 t) (hs0_1 t) (hs0_2 t) (hs0_5 t) (Memref.isWhole_whole _)
    (iblk m c 0 t) (iblk m c 1 t) (iblk m c 2 t)) $$ [H0 H1 H2 H3 H4 H5 H7]
  · isplitl [H0]; · iexact H0
    isplitl [H1]; · iexact H1
    isplitl [H2]; · iexact H2
    isplitl [H3]; · iexact H3
    isplitl [H4]; · iexact H4
    isplitl [H5]; · iexact H5
    iexact H7
  iintro ⟨H0, H1, H2, H3, H4, H5, H7⟩
  isplitl [H7 Hg]
  · isplitl [H7]
    · iexists _; iexact H7
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

end Cert.KernelIdeal.Value

end
-- ==== Proof.Arrays.lean ====
/-
  What the kernel's arrays hold after the run, element by element: each element is that of the block that its row
  lies in.
-/
module

public import proofs.«01_k».proof.Proof.KernelRun
public import Idealize.ShloMosaic.Lib.Pipeline.ValueKit
public import Idealize.ShloMosaic.Lib.PointwiseCore

@[expose] public section

noncomputable section

namespace Cert.KernelIdeal.Value

open Idealize.ShloMosaic Idealize.ShloMosaic.TcCoe
open Idealize.SL.Sem
open Idealize.ShloMosaic.Pipeline (Dat Cfg Window)
open Cert.KernelIdeal.Gen

variable {F : FTy → Type} [FloatOps F]

/-- Rows `256 i` to `256 i + 255` of slab `b` of the activations. -/
def xBlock (X : Vec F S4x3072x8192 .bf16) (b : Fin 4) (i : Fin 12) : Vec F S1x256x8192 .bf16 := fun y =>
  X (ix3 b ⟨256 * i.val + (y 1).val, by have : (y 1).val < 256 := (y 1).isLt; omega⟩ (y 2))

/-- The block of a row. -/
def tile (r : Fin 3072) : Fin 12 := ⟨r.val / 256, by omega⟩
/-- The place of a row within its block. -/
def row (r : Fin 3072) : Fin 256 := ⟨r.val % 256, Nat.mod_lt _ (by decide)⟩

def outArr (S : Vec F S16x64 .f32) (X : Vec F S4x3072x8192 .bf16) (w : Vec F S2048x8192 .fp8e4m3) : Vec F S4x3072x2048 .bf16 := fun j =>
  Body.outBlock S (xBlock X (j 0) (tile (j 1))) w (ix3 0 (row (j 1)) (j 2))

def codesArr (X : Vec F S4x3072x8192 .bf16) : Vec F S4x3072x8192 .fp8e4m3 := fun j =>
  Body.codesBlock (xBlock X (j 0) (tile (j 1))) (ix3 0 (row (j 1)) (j 2))

def scalesArr (X : Vec F S4x3072x8192 .bf16) : Vec F S4x64x3072 .f32 := fun j =>
  Body.scalesBlock (xBlock X (j 0) (tile (j 2))) (ix3 0 (j 1) (row (j 2)))

variable (m : (ℓ : Loc nD τ sig) → Buf (Elt F) ℓ) (ρ : Dev nD → PrngReg)

theorem idx : ∀ t : Fin cfg0.N, win0_0.index t = ![0, 0] ∧ win0_1.index t = ![t.val / 12, t.val % 12, 0] ∧ win0_2.index t = ![0, 0]
    ∧ win0_3.index t = ![t.val / 12, t.val % 12, 0] ∧ win0_4.index t = ![t.val / 12, t.val % 12, 0]
    ∧ win0_5.index t = ![t.val / 12, 0, t.val % 12] :=
  (by decide +kernel : ∀ t : Fin grid0.N, _)

theorem N_eq (t : Fin cfg0.N) : t.val < 48 := N_0 ▸ t.isLt

/-- The slab of a point. -/
def slab (t : Fin cfg0.N) : Fin 4 := ⟨t.val / 12, by have := N_eq t; omega⟩
/-- The block of a point. -/
def tileOf (t : Fin cfg0.N) : Fin 12 := ⟨t.val % 12, Nat.mod_lt _ (by decide)⟩

theorem iblk0 (c : Dev nD) (t : Fin cfg0.N) : iblk m c 0 t = m ((c : Thread nD τ).loc main_arg2) := by
  blk_ext! [iblk, V, idx t]

theorem iblk2 (c : Dev nD) (t : Fin cfg0.N) : iblk m c 2 t = m ((c : Thread nD τ).loc main_arg1) := by
  blk_ext! [iblk, V, idx t]

theorem pos_lt (t : Fin cfg0.N) (r : Fin 256) : 256 * (tileOf t).val + r.val < 3072 := by
  have : (tileOf t).val < 12 := (tileOf t).isLt
  omega

theorem tile_pos (t : Fin cfg0.N) (r : Fin 256) : tile ⟨256 * (tileOf t).val + r.val, pos_lt t r⟩ = tileOf t := by
  apply Fin.ext
  show (256 * (tileOf t).val + r.val) / 256 = (tileOf t).val
  omega

theorem row_pos (t : Fin cfg0.N) (r : Fin 256) : row ⟨256 * (tileOf t).val + r.val, pos_lt t r⟩ = r := by
  apply Fin.ext
  show (256 * (tileOf t).val + r.val) % 256 = r.val
  omega

/-- An index of a block, by its coordinates. -/
theorem ix3_zero {n p : ℕ} (y : (⟨3, ![1, n, p]⟩ : Shape).Idx) : ix3 (0 : Fin 1) (y 1) (y 2) = y := by
  conv_rhs => rw [eq_ix3 y]
  congr 1
  exact Subsingleton.elim (α := Fin 1) _ _

theorem iblk1 (c : Dev nD) (t : Fin cfg0.N) :
    iblk m c 1 t = xBlock (m ((c : Thread nD τ).loc main_arg0)) (slab t) (tileOf t) := by
  funext y
  blk_simp [iblk]
  show V m c main_arg0 _ = _
  rw [V_main_arg0]
  unfold xBlock
  congr 1
  have h0 : (y 0).val < 1 := (y 0).isLt
  funext a
  apply Fin.ext
  fin_cases a <;> blk_simp [idx t] <;> (first | rfl | (show _ % _ * _ + (y 1).val = 256 * (_ % _) + (y 1).val; omega))

theorem emb3 (t : Fin cfg0.N) (y : S1x256x2048.Idx) :
    (win0_3.blk t).view.emb y = ix3 (slab t) ⟨256 * (tileOf t).val + (y 1).val, pos_lt t (y 1)⟩ (y 2) := by
  have h0 : (y 0).val < 1 := (y 0).isLt
  funext a
  apply Fin.ext
  fin_cases a <;> blk_simp [idx t] <;> (first | rfl | (show _ % _ * _ + (y 1).val = 256 * (_ % _) + (y 1).val; omega))

theorem emb4 (t : Fin cfg0.N) (y : S1x256x8192.Idx) :
    (win0_4.blk t).view.emb y = ix3 (slab t) ⟨256 * (tileOf t).val + (y 1).val, pos_lt t (y 1)⟩ (y 2) := by
  have h0 : (y 0).val < 1 := (y 0).isLt
  funext a
  apply Fin.ext
  fin_cases a <;> blk_simp [idx t] <;> (first | rfl | (show _ % _ * _ + (y 1).val = 256 * (_ % _) + (y 1).val; omega))

theorem emb5 (t : Fin cfg0.N) (y : S1x64x256.Idx) :
    (win0_5.blk t).view.emb y = ix3 (slab t) (y 1) ⟨256 * (tileOf t).val + (y 2).val, pos_lt t (y 2)⟩ := by
  have h0 : (y 0).val < 1 := (y 0).isLt
  funext a
  apply Fin.ext
  fin_cases a <;> blk_simp [idx t] <;> (first | rfl | (show _ % _ * _ + (y 2).val = 256 * (_ % _) + (y 2).val; omega))

theorem outArr_at (S : Vec F S16x64 .f32) (X : Vec F S4x3072x8192 .bf16) (w : Vec F S2048x8192 .fp8e4m3) (t : Fin cfg0.N) (y : S1x256x2048.Idx) :
    outArr S X w (ix3 (slab t) ⟨256 * (tileOf t).val + (y 1).val, pos_lt t (y 1)⟩ (y 2))
      = Body.outBlock S (xBlock X (slab t) (tileOf t)) w y := by
  show Body.outBlock S (xBlock X (slab t) (tile ⟨256 * (tileOf t).val + (y 1).val, pos_lt t (y 1)⟩)) w
    (ix3 0 (row ⟨256 * (tileOf t).val + (y 1).val, pos_lt t (y 1)⟩) (y 2)) = _
  rw [tile_pos t (y 1), row_pos t (y 1)]
  exact congrArg _ (ix3_zero y)

theorem codesArr_at (X : Vec F S4x3072x8192 .bf16) (t : Fin cfg0.N) (y : S1x256x8192.Idx) :
    codesArr X (ix3 (slab t) ⟨256 * (tileOf t).val + (y 1).val, pos_lt t (y 1)⟩ (y 2))
      = Body.codesBlock (xBlock X (slab t) (tileOf t)) y := by
  show Body.codesBlock (xBlock X (slab t) (tile ⟨256 * (tileOf t).val + (y 1).val, pos_lt t (y 1)⟩))
    (ix3 0 (row ⟨256 * (tileOf t).val + (y 1).val, pos_lt t (y 1)⟩) (y 2)) = _
  rw [tile_pos t (y 1), row_pos t (y 1)]
  exact congrArg _ (ix3_zero y)

theorem scalesArr_at (X : Vec F S4x3072x8192 .bf16) (t : Fin cfg0.N) (y : S1x64x256.Idx) :
    scalesArr X (ix3 (slab t) (y 1) ⟨256 * (tileOf t).val + (y 2).val, pos_lt t (y 2)⟩)
      = Body.scalesBlock (xBlock X (slab t) (tileOf t)) y := by
  show Body.scalesBlock (xBlock X (slab t) (tile ⟨256 * (tileOf t).val + (y 2).val, pos_lt t (y 2)⟩))
    (ix3 0 (y 1) (row ⟨256 * (tileOf t).val + (y 2).val, pos_lt t (y 2)⟩)) = _
  rw [tile_pos t (y 2), row_pos t (y 2)]
  exact congrArg _ (ix3_zero y)

theorem final_out (c : Dev nD) : (dats m 0 c).arrAt 3 cfg0.N
    = outArr (m ((c : Thread nD τ).loc main_arg2)) (m ((c : Thread nD τ).loc main_arg0)) (m ((c : Thread nD τ).loc main_arg1)) := by
  refine (dats m 0 c).arrAt_eq_of_covers 3 _ (by decide +kernel) fun t hf y => ?_
  blk_simp
  rw [after0_3, iblk0, iblk1, iblk2]
  exact (((congrArg (outArr _ _ _) (emb3 t y))).trans (outArr_at _ _ _ t y)).symm

theorem final_codes (c : Dev nD) : (dats m 0 c).arrAt 4 cfg0.N = codesArr (m ((c : Thread nD τ).loc main_arg0)) := by
  refine (dats m 0 c).arrAt_eq_of_covers 4 _ (by decide +kernel) fun t hf y => ?_
  blk_simp
  rw [after0_4, iblk1]
  exact (((congrArg (codesArr _) (emb4 t y))).trans (codesArr_at _ t y)).symm

theorem final_scales (c : Dev nD) : (dats m 0 c).arrAt 5 cfg0.N = scalesArr (m ((c : Thread nD τ).loc main_arg0)) := by
  refine (dats m 0 c).arrAt_eq_of_covers 5 _ (by decide +kernel) fun t hf y => ?_
  blk_simp
  rw [after0_5, iblk1]
  exact (((congrArg (scalesArr _) (emb5 t y))).trans (scalesArr_at _ t y)).symm

theorem tail_eq (c : Dev nD) : Pipeline.afterTail₀ cfgs (dats m) 0 (V0 m) [hostOps1] c main_v1
    = transpose S4x3072x64 [0, 2, 1] (scalesArr (m ((c : Thread nD τ).loc main_arg0))) Shapes2.Facts₀.transposes_S4x64x3072_S4x3072x64_0_2_1 := by
  unfold Pipeline.afterTail₀
  rw [← final_scales m c]
  simp only [hostOps1, List.flatten_cons, List.flatten_nil, List.append_nil]
  after_results
  congr 1
  exact Pipeline.withArrays_arr spec0 (by decide) c (V0 m c) (fun w => (dats m 0 c).arrAt w cfg0.N) 5

/-- The kernel's run, its results named. -/
theorem run : θ_run defs (onTc (τ := τ) (main (F := F))) ⟨m, fun _ => 0, ρ⟩ (fun r => ∀ c : Dev nD,
      r.2.mem ((c.tc : Thread nD τ).loc main_v0_0)
        = outArr (m ((c : Thread nD τ).loc main_arg2)) (m ((c : Thread nD τ).loc main_arg0)) (m ((c : Thread nD τ).loc main_arg1))
      ∧ r.2.mem ((c.tc : Thread nD τ).loc main_v0_1) = codesArr (m ((c : Thread nD τ).loc main_arg0))
      ∧ r.2.mem ((c.tc : Thread nD τ).loc main_v1)
        = transpose S4x3072x64 [0, 2, 1] (scalesArr (m ((c : Thread nD τ).loc main_arg0))) Shapes2.Facts₀.transposes_S4x64x3072_S4x3072x64_0_2_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  run_from run_main m ρ
  · exact final_out m c
  · exact final_codes m c
  · exact tail_eq m c

end Cert.KernelIdeal.Value

end
-- ==== Proof.Exponent.lean ====
/-
  Powers of two by their exponent field, over the extended reals: the search for the exponent of a number, and the two
  scales it gives, the power of two above the number and its inverse.
-/
module

public import Idealize.ShloMosaic.PureOps.Ideal.Laws
public import Idealize.ShloMosaic.Lib.IdealHost
public import Mathlib.Data.Finset.Fold

@[expose] public section

noncomputable section

namespace Cert.Exponent

open Idealize.ShloMosaic

/-- The word whose exponent field is `b` and whose other fields are zero. -/
def word (b : ℕ) : BitVec 32 := BitVec.ofNat 32 b <<< 23

/-- The number the word denotes: the power of two of exponent field `b`, zero for field zero. -/
def power (b : ℕ) : EReal := Ideal.ofBits .f32 (word b)

theorem word_fields : ∀ b : Fin 256, ((word b).extractLsb' 31 1 == 1#1) = false ∧ ((word b).extractLsb' 23 8).toNat = b.val
    ∧ ((word b).extractLsb' 0 23).toNat = 0 := by
  decide +kernel

theorem power_zero : power 0 = 0 := Ideal.ofBits_zero_f32

/-- The number of a word by its three fields. -/
theorem ieee_of_fields (w : BitVec 32) (b : ℕ) (hs : (w.extractLsb' 31 1 == 1#1) = false) (he : (w.extractLsb' 23 8).toNat = b)
    (hf : (w.extractLsb' 0 23).toNat = 0) (h1 : 1 ≤ b) :
    Ideal.ieee 8 23 w = if b = 255 then ⊤ else (((2 : ℝ) ^ ((b : ℤ) - 127) : ℝ) : EReal) := by
  unfold Ideal.ieee
  simp only [Nat.reduceAdd, hs, he, hf]
  by_cases h : b = 255
  · subst h
    norm_num
  · rw [if_neg (by omega), if_neg (by omega), if_neg h]
    congr 1
    have e : (b : ℤ) - 127 = 23 + ((b : ℤ) - (2 ^ (8 - 1) - 1) - (23 : ℕ)) := by norm_num
    rw [e, zpow_add₀ (by norm_num : (2 : ℝ) ≠ 0)]
    norm_num

theorem power_normal {b : ℕ} (h1 : 1 ≤ b) (h2 : b ≤ 254) : power b = (((2 : ℝ) ^ ((b : ℤ) - 127) : ℝ) : EReal) := by
  have h := word_fields ⟨b, by omega⟩
  have e := ieee_of_fields (word b) b h.1 h.2.1 h.2.2 h1
  rw [if_neg (by omega)] at e
  exact e

theorem power_top : power 255 = ⊤ := by
  have h := word_fields ⟨255, by omega⟩
  exact ieee_of_fields (word 255) 255 h.1 h.2.1 h.2.2 (by omega)

theorem power_pos {b : ℕ} (h1 : 1 ≤ b) (h2 : b ≤ 254) : 0 < power b := by
  rw [power_normal h1 h2]
  exact_mod_cast zpow_pos (by norm_num : (0 : ℝ) < 2) _

theorem power_lt {a b : ℕ} (h : a < b) (hb : b ≤ 255) : power a < power b := by
  by_cases h255 : b = 255
  · subst h255
    rw [power_top]
    by_cases ha : a = 0
    · subst ha
      rw [power_zero]
      exact EReal.zero_lt_top
    · rw [power_normal (by omega) (by omega)]
      exact EReal.coe_lt_top _
  · by_cases ha : a = 0
    · subst ha
      rw [power_zero]
      exact power_pos (by omega) (by omega)
    · rw [power_normal (by omega) (by omega), power_normal (by omega) (by omega)]
      exact EReal.coe_lt_coe_iff.mpr (zpow_lt_zpow_right₀ (by norm_num : (1 : ℝ) < 2) (by omega))

theorem power_le {a b : ℕ} (h : a ≤ b) (hb : b ≤ 255) : power a ≤ power b := by
  rcases Nat.lt_or_eq_of_le h with h | rfl
  · exact (power_lt h hb).le
  · exact le_rfl

theorem power_one : power 127 = 1 := by
  rw [power_normal (by omega) (by omega)]
  norm_num

/-! ## The search -/

/-- One step of the search. -/
def step (t : EReal) (bit B : ℕ) : ℕ := if power (B + bit) ≤ t then B + bit else B

/-- The exponent field of `t`. -/
def field (t : EReal) : ℕ := step t 1 (step t 2 (step t 4 (step t 8 (step t 16 (step t 32 (step t 64 (step t 128 0)))))))

/-- What the search knows with `k` fields left: the power is at most `t`, those `k` fields further are not. -/
def Found (t : EReal) (k B : ℕ) : Prop := B + k ≤ 256 ∧ power B ≤ t ∧ ∀ c, B + k ≤ c → c ≤ 255 → t < power c

theorem found_step {t : EReal} {k B : ℕ} (hk : 1 ≤ k) (h : Found t (2 * k) B) : Found t k (step t k B) := by
  obtain ⟨h1, h2, h3⟩ := h
  unfold step
  split_ifs with hc
  · exact ⟨by omega, hc, fun c h h' => h3 c (by omega) h'⟩
  · exact ⟨by omega, h2, fun c h h' => lt_of_lt_of_le (not_le.mp hc) (power_le h h')⟩

theorem found_field {t : EReal} (h : 0 ≤ t) : Found t 1 (field t) := by
  have h0 : Found t (2 * 128) 0 := ⟨by omega, by rw [power_zero]; exact h, fun c h h' => by omega⟩
  have h7 := found_step (by omega) h0
  have h6 := found_step (k := 64) (by omega) h7
  have h5 := found_step (k := 32) (by omega) h6
  have h4 := found_step (k := 16) (by omega) h5
  have h3 := found_step (k := 8) (by omega) h4
  have h2 := found_step (k := 4) (by omega) h3
  have h1 := found_step (k := 2) (by omega) h2
  exact found_step (k := 1) (by omega) h1

theorem field_lt {t : EReal} (h : 0 ≤ t) (ht : t < power 253) : field t < 253 := by
  obtain ⟨h1, h2, -⟩ := found_field h
  by_contra hc
  exact absurd (lt_of_le_of_lt h2 ht) (not_lt.mpr (power_le (by omega) (by omega)))

/-- The field of one half in place of zero. -/
def used (t : EReal) : ℕ := if field t = 0 then 126 else field t

theorem used_pos (t : EReal) : 1 ≤ used t := by
  unfold used
  split_ifs <;> omega

theorem used_lt {t : EReal} (h : 0 ≤ t) (ht : t < power 253) : used t < 253 := by
  have := field_lt h ht
  unfold used
  split_ifs <;> omega

/-! ## The scales -/

/-- A power of two above `t`, infinity in place of the others. -/
def aboveAt (t : EReal) (i : Fin 253) : EReal := if t < power (i.val + 2) then power (i.val + 2) else ⊤

/-- The least power of two above `t`. -/
def above (t : EReal) : EReal := Finset.univ.fold min ⊤ (aboveAt t)

theorem above_eq {t : EReal} {b : ℕ} (hb1 : 1 ≤ b) (hb2 : b < 253) (h1 : power b ≤ t) (h2 : t < power (b + 1)) : above t = power (b + 1) := by
  apply le_antisymm
  · unfold above
    rw [Finset.fold_min_le]
    refine .inr ⟨⟨b - 1, by omega⟩, Finset.mem_univ _, ?_⟩
    have e : b - 1 + 2 = b + 1 := by omega
    simp only [aboveAt, e, if_pos h2, le_refl]
  · unfold above
    rw [Finset.le_fold_min]
    refine ⟨le_top, fun i _ => ?_⟩
    unfold aboveAt
    split_ifs with h
    · apply power_le _ (by omega)
      by_contra hc
      exact absurd (lt_of_lt_of_le h (power_le (by omega : i.val + 2 ≤ b) (by omega))) (not_lt.mpr h1)
    · exact le_top

/-- The search's scale is the least power of two above `t`, or one below the normal numbers. -/
theorem scale_eq {t : EReal} (h : 0 ≤ t) (ht : t < power 253) : (if t < power 1 then (1 : EReal) else above t) = power (used t + 1) := by
  obtain ⟨h1, h2, h3⟩ := found_field h
  have h4 := field_lt h ht
  by_cases h0 : field t = 0
  · rw [if_pos (h3 1 (by omega) (by omega))]
    unfold used
    rw [if_pos h0, power_one]
  · have hn : ¬ t < power 1 := not_lt.mpr (le_trans (power_le (by omega) (by omega)) h2)
    unfold used
    rw [if_neg hn, if_neg h0, above_eq (b := field t) (by omega) h4 h2 (h3 _ le_rfl (by omega))]

/-- The other power is its inverse. -/
theorem inv_eq {t : EReal} (h : 0 ≤ t) (ht : t < power 253) : Ideal.div 1 (power (used t + 1)) = power (253 - used t) := by
  have h1 := used_pos t
  have h2 := used_lt h ht
  have hne : power (used t + 1) ≠ 0 := (power_pos (by omega) (by omega)).ne'
  unfold Ideal.div
  rw [if_neg hne, power_normal (by omega) (by omega), power_normal (by omega) (by omega), one_mul, ← EReal.coe_inv, ← zpow_neg]
  congr 2
  push_cast [Nat.cast_sub h2.le]
  omega

/-! ## The numbers met -/

/-- A nonnegative number no larger than the largest finite one of sixteen bits, over 448, is below every power the search may miss. -/
theorem quotient_lt {a : EReal} (h : 0 ≤ a) (ha : a ≤ Ideal.ofBits .f32 0x7F7F0000#32) :
    0 ≤ a * Ideal.ofBits .f32 0x3B124925#32 ∧ a * Ideal.ofBits .f32 0x3B124925#32 < power 253 := by
  have hM : Ideal.ofBits .f32 0x7F7F0000#32 = (((255 : ℝ) * (2 : ℝ) ^ (120 : ℤ) : ℝ) : EReal) := by
    simp [Ideal.ofBits, Ideal.ieee, -EReal.coe_mul]; norm_num
  have hc : Ideal.ofBits .f32 0x3B124925#32 = (((9586981 : ℝ) * (2 : ℝ) ^ (-32 : ℤ) : ℝ) : EReal) := by
    simp [Ideal.ofBits, Ideal.ieee, -EReal.coe_mul]
  rw [hM] at ha
  rw [hc, power_normal (by omega) (by omega)]
  lift a to ℝ using ⟨(lt_of_le_of_lt ha (EReal.coe_lt_top _)).ne, (lt_of_lt_of_le EReal.bot_lt_zero h).ne'⟩
  have h' : (0 : ℝ) ≤ a := by exact_mod_cast h
  have ha' : a ≤ (255 : ℝ) * (2 : ℝ) ^ (120 : ℤ) := EReal.coe_le_coe_iff.mp ha
  rw [← EReal.coe_mul]
  constructor
  · exact_mod_cast mul_nonneg h' (by norm_num)
  · apply EReal.coe_lt_coe_iff.mpr
    calc a * ((9586981 : ℝ) * (2 : ℝ) ^ (-32 : ℤ)) ≤ (255 : ℝ) * (2 : ℝ) ^ (120 : ℤ) * ((9586981 : ℝ) * (2 : ℝ) ^ (-32 : ℤ)) :=
          mul_le_mul_of_nonneg_right ha' (by norm_num)
      _ < (2 : ℝ) ^ (((253 : ℕ) : ℤ) - 127) := by norm_num [zpow_neg]

end Cert.Exponent

end
-- ==== Proof.Numbers.lean ====
/-
  The numbers both programs compute: a magnitude, a quotient by the largest code, a coded value.
-/
module

public import Idealize.ShloMosaic.PureOps.Ideal.Laws
public import Mathlib.Data.Finset.Fold

@[expose] public section

noncomputable section

namespace Cert.Exponent

open Idealize.ShloMosaic

/-- The magnitude of an extended real. -/
def mag (a : EReal) : EReal := max a (-a)

/-- A largest magnitude over the largest code. -/
def quotient (a : EReal) : EReal := a * Ideal.ofBits .f32 0x3B124925#32

/-- A value times the inverse scale, clipped to the codes' range. -/
def coded (a i : EReal) : EReal := min (Ideal.ofBits .f32 0x43E00000#32) (max (Ideal.ofBits .f32 0xC3E00000#32) (a * i))

theorem negInf_bf16 : Ideal.ofBits .bf16 0xFF80#16 = ⊥ := by simp [Ideal.ofBits, Ideal.ieee]

theorem negInf_f32 : Ideal.ofBits .f32 0xFF800000#32 = ⊥ := by simp [Ideal.ofBits, Ideal.ieee]

theorem posInf_f32 : Ideal.ofBits .f32 0x7F800000#32 = ⊤ := by simp [Ideal.ofBits, Ideal.ieee]

end Cert.Exponent

end
-- ==== Proof.KernelTable.lean ====
/-
  The kernel's table of largest magnitudes and the scales it gives, over the extended reals.
-/
module

public import proofs.«01_k».proof.Proof.Closed
public import proofs.«01_k».proof.Proof.Exponent
public import proofs.«01_k».proof.Proof.Numbers
public import Idealize.ShloMosaic.Lib.Pointwise

@[expose] public section

noncomputable section

namespace Cert.KernelIdeal.Body

open Idealize.ShloMosaic
open Facts Facts₀ Shapes1.Facts₀ Shapes2.Facts₀ K0.Facts₀
open Cert.Exponent

theorem select_eq {α : Type} (n g : ℕ) (hn : n < 2 ^ 32) (hg : g < 2 ^ 32) (a b : α) :
    Scalar.select (IntOp.cmpi .eq (BitVec.ofNat 32 n) (BitVec.ofNat 32 g)) a b = if n = g then a else b := by
  by_cases h : n = g
  · subst h
    simp [Scalar.select, IntOp.cmpi]
  · have hne : BitVec.ofNat 32 n ≠ BitVec.ofNat 32 g := fun e => h (by
      have := congrArg BitVec.toNat e
      rwa [BitVec.toNat_ofNat, BitVec.toNat_ofNat, Nat.mod_eq_of_lt hn, Nat.mod_eq_of_lt hg] at this)
    rw [if_neg h]
    show (if BitVec.ofBool (BitVec.ofNat 32 n == BitVec.ofNat 32 g) = 1#1 then a else b) = b
    rw [beq_false_of_ne hne]
    rfl

theorem shli_word (b : ℕ) : IntOp.shli .vector (BitVec.ofNat 32 b) 23#32 = word b := by
  unfold IntOp.shli
  rw [if_pos (by decide)]
  rfl

/-! ## The table -/

/-- The largest magnitude of a row of a group. -/
def largest (v : Vec Ideal S1x256x128 .bf16) (r : Fin 256) : EReal := Finset.univ.fold max ⊥ fun k : Fin 128 => mag (v (ix3 0 r k))

theorem amaxStep_apply (g : ℕ) (hg : g < 64) (a : FVec Ideal S256x64 .f32) (v : Vec Ideal S1x256x128 .bf16) (r : Fin 256) (c : Fin 64) :
    amaxStep g a v (ix2 r c) = if c.val = g then largest v r else a (ix2 r c) := by
  pointwise [amaxStep]
  rw [select_eq _ _ (by omega) (by omega), negInf_bf16]
  rfl

theorem amaxAfter_apply (x : Vec Ideal S1x256x8192 .bf16) (n : ℕ) (h : n ≤ 64) (a : FVec Ideal S256x64 .f32) (r : Fin 256) (c : Fin 64) :
    amaxAfter x n h a (ix2 r c) = if 64 ≤ c.val + n then largest (groupOf x c.isLt) r else a (ix2 r c) := by
  induction n generalizing a with
  | zero =>
    rw [amaxAfter, if_neg (by omega)]
  | succ n ih =>
    rw [amaxAfter, ih, amaxStep_apply _ (by omega)]
    by_cases h1 : 64 ≤ c.val + n
    · rw [if_pos h1, if_pos (by omega)]
    · by_cases h2 : c.val = 63 - n
      · rw [if_neg h1, if_pos h2, if_pos (by omega)]
        congr 2
        exact h2.symm
      · rw [if_neg h1, if_neg h2, if_neg (by omega)]

theorem table_apply (x : Vec Ideal S1x256x8192 .bf16) (r : Fin 256) (c : Fin 64) :
    table x (ix2 r c) = largest (groupOf x c.isLt) r := by
  rw [table, amaxAfter_apply, if_pos (by omega)]

/-! ## The scales -/

theorem searchStep_apply (t : FVec Ideal S256x64 .f32) (bit : ℕ) (b : IVec S256x64 32) (B : ℕ) (j : S256x64.Idx) (h : b j = BitVec.ofNat 32 B) :
    searchStep t (BitVec.ofNat 32 bit) b j = BitVec.ofNat 32 (step (t j) bit B) := by
  pointwise [searchStep]
  have e : IntOp.addi (b j) (BitVec.ofNat 32 bit) = BitVec.ofNat 32 (B + bit) := by
    rw [h]
    exact (BitVec.ofNat_add _ _).symm
  rw [e, shli_word, h]
  unfold step power
  split_ifs <;> rfl

theorem search_apply (t : FVec Ideal S256x64 .f32) (j : S256x64.Idx) : search t j = BitVec.ofNat 32 (field (t j)) := by
  unfold search field
  refine searchStep_apply t 1 _ _ j ?_
  refine searchStep_apply t 2 _ _ j ?_
  refine searchStep_apply t 4 _ _ j ?_
  refine searchStep_apply t 8 _ _ j ?_
  refine searchStep_apply t 16 _ _ j ?_
  refine searchStep_apply t 32 _ _ j ?_
  refine searchStep_apply t 64 _ _ j ?_
  refine searchStep_apply t 128 _ _ j ?_
  rfl

theorem biased_apply (a : FVec Ideal S256x64 .f32) (j : S256x64.Idx) (h0 : 0 ≤ quotient (a j)) (h1 : quotient (a j) < power 253) :
    biased a j = BitVec.ofNat 32 (used (quotient (a j))) := by
  unfold biased
  pointwise
  have e : ratio a j = quotient (a j) := rfl
  have hl := field_lt h0 h1
  rw [search_apply, e]
  refine (select_eq _ 0 (by omega) (by omega) _ _).trans ?_
  unfold used
  split_ifs <;> rfl

theorem scaleOf_apply (a : FVec Ideal S256x64 .f32) (j : S256x64.Idx) (h0 : 0 ≤ quotient (a j)) (h1 : quotient (a j) < power 253) :
    scaleOf a j = power (used (quotient (a j)) + 1) := by
  unfold scaleOf
  pointwise
  rw [biased_apply a j h0 h1]
  have e : IntOp.addi (BitVec.ofNat 32 (used (quotient (a j)))) 1#32 = BitVec.ofNat 32 (used (quotient (a j)) + 1) :=
    (BitVec.ofNat_add _ _).symm
  rw [e, shli_word]
  rfl

theorem invOf_apply (a : FVec Ideal S256x64 .f32) (j : S256x64.Idx) (h0 : 0 ≤ quotient (a j)) (h1 : quotient (a j) < power 253) :
    invOf a j = power (253 - used (quotient (a j))) := by
  unfold invOf
  pointwise
  rw [biased_apply a j h0 h1]
  have hl := used_lt h0 h1
  have e : IntOp.subi 253#32 (BitVec.ofNat 32 (used (quotient (a j)))) = BitVec.ofNat 32 (253 - used (quotient (a j))) := by
    generalize used (quotient (a j)) = u at hl ⊢
    apply BitVec.eq_of_toNat_eq
    unfold IntOp.subi
    rw [BitVec.toNat_sub, BitVec.toNat_ofNat, BitVec.toNat_ofNat, BitVec.toNat_ofNat]
    omega
  rw [e, shli_word]
  rfl

end Cert.KernelIdeal.Body

end
-- ==== Proof.KernelBlock.lean ====
/-
  The kernel's blocks over the extended reals, element by element.
-/
module

public import proofs.«01_k».proof.Proof.KernelTable
public import proofs.«01_k».proof.Proof.BodyTriple

@[expose] public section

noncomputable section

namespace Cert.KernelIdeal.Body

open Idealize.ShloMosaic
open Facts Facts₀ Shapes1.Facts₀ Shapes2.Facts₀ K0.Facts₀
open Cert.Exponent

/-! ## The windows -/

theorem groupOf_apply {e : EltTy} (x : Vec Ideal S1x256x8192 e) {g : ℕ} (hg : g < 64) (r : Fin 256) (k : Fin 128) :
    groupOf x hg (ix3 0 r k) = x (ix3 0 r ⟨128 * g + k.val, by omega⟩) := by
  unfold groupOf VecWindow.window
  congr 1
  funext i
  fin_cases i <;> apply Fin.ext <;> simp [ix3]

theorem columnsOf_apply (w : Vec Ideal S2048x8192 .fp8e4m3) {g : ℕ} (hg : g < 64) (n : Fin 2048) (k : Fin 128) :
    columnsOf w hg (ix2 n k) = w (ix2 n ⟨128 * g + k.val, by omega⟩) := by
  unfold columnsOf VecWindow.window
  congr 1
  funext i
  fin_cases i <;> apply Fin.ext <;> simp [ix2]

theorem wordOf_apply (s : Vec Ideal S16x64 .f32) {n g : ℕ} (hn : n < 16) (hg : g < 64) : wordOf s hn hg = s (ix2 ⟨n, hn⟩ ⟨g, hg⟩) := by
  unfold wordOf VecWindow.window
  congr 1
  funext i
  have h0 : (wordIdx 0).val = 0 := by have : (wordIdx 0).val < 1 := (wordIdx 0).isLt; omega
  have h1 : (wordIdx 1).val = 0 := by have : (wordIdx 1).val < 1 := (wordIdx 1).isLt; omega
  fin_cases i <;> apply Fin.ext <;> simp [ix2, h0, h1]

/-! ## The codes and the scales -/

theorem codesBlock_apply (x : Vec Ideal S1x256x8192 .bf16) (r : Fin 256) (c : Fin 8192) :
    codesBlock x (ix3 0 r c) = coded (x (ix3 0 r c)) (invOf (table x) (ix2 r ⟨c.val / 128, by omega⟩)) := by
  have hx : x (ix3 0 r c) = groupOf x (g := c.val / 128) (by omega) (ix3 0 r ⟨c.val % 128, Nat.mod_lt _ (by decide)⟩) := by
    rw [groupOf_apply]
    congr 2
    exact Fin.ext (Nat.div_add_mod _ _).symm
  rw [codesBlock, codesOver_apply, hx]
  show groupCodes x (invOf (table x)) (g := c.val / 128) _ (ix3 0 r ⟨c.val % 128, Nat.mod_lt _ (by decide)⟩) = _
  unfold groupCodes
  pointwise [codesOf, clip, scaled]
  rfl

theorem scalesBlock_apply (x : Vec Ideal S1x256x8192 .bf16) (g : Fin 64) (r : Fin 256) :
    scalesBlock x (ix3 0 g r) = scaleOf (table x) (ix2 r g) := by
  pointwise [scalesBlock, scaleRows, turned]

/-- A group's product at a place: the row of the weights against the row of the codes. -/
def dot (w : Vec Ideal S2048x8192 .fp8e4m3) (q : Vec Ideal S1x256x8192 .fp8e4m3) (n : Fin 2048) (r : Fin 256) (g : ℕ) (hg : g < 64) : EReal :=
  ∑ k : Fin 128, w (ix2 n ⟨128 * g + k.val, by omega⟩) * q (ix3 0 r ⟨128 * g + k.val, by omega⟩)

theorem productOf_apply (w : Vec Ideal S2048x8192 .fp8e4m3) (q : Vec Ideal S1x256x8192 .fp8e4m3) (n : Fin 2048) (r : Fin 256) (g : ℕ) (hg : g < 64) :
    productOf w q hg (ix2 n r) = dot w q n r g hg := by
  pointwise [productOf, product]
  unfold dot
  refine Finset.sum_congr rfl fun k _ => ?_
  rw [columnsOf_apply, groupOf_apply]

theorem updateOf_apply (s : Vec Ideal S16x64 .f32) {g n : ℕ} (hg : g + 1 < 64) (hn : n < 16) (st : FVec Ideal S64x256 .f32)
    (p0 p1 : FVec Ideal S2048x256 .f32) (i : Fin 128) (r : Fin 256) :
    updateOf s hg hn st p0 p1 (ix2 i r)
      = p0 (ix2 ⟨128 * n + i.val, by omega⟩ r) * (st (ix2 ⟨g, by omega⟩ r) * s (ix2 ⟨n, hn⟩ ⟨g, by omega⟩))
        + p1 (ix2 ⟨128 * n + i.val, by omega⟩ r) * (st (ix2 ⟨g + 1, hg⟩ r) * s (ix2 ⟨n, hn⟩ ⟨g + 1, hg⟩)) := by
  unfold updateOf update
  pointwise [term]
  rw [wordOf_apply, wordOf_apply]

/-! ## The accumulator -/

/-- What group `g` adds to the accumulator at a place. -/
def added (s : Vec Ideal S16x64 .f32) (w : Vec Ideal S2048x8192 .fp8e4m3) (q : Vec Ideal S1x256x8192 .fp8e4m3) (st : FVec Ideal S64x256 .f32)
    (n : Fin 2048) (r : Fin 256) (g : ℕ) : EReal :=
  if hg : g < 64 then dot w q n r g hg * (st (ix2 ⟨g, hg⟩ r) * s (ix2 ⟨n.val / 128, by omega⟩ ⟨g, hg⟩)) else 0

/-- What a pair adds. -/
def addedPair (s : Vec Ideal S16x64 .f32) (w : Vec Ideal S2048x8192 .fp8e4m3) (q : Vec Ideal S1x256x8192 .fp8e4m3) (st : FVec Ideal S64x256 .f32)
    (n : Fin 2048) (r : Fin 256) (k : ℕ) : EReal := added s w q st n r (2 * k) + added s w q st n r (2 * k + 1)

theorem updateOf_pair (s : Vec Ideal S16x64 .f32) (w : Vec Ideal S2048x8192 .fp8e4m3) (q : Vec Ideal S1x256x8192 .fp8e4m3) (st : FVec Ideal S64x256 .f32)
    (n : Fin 2048) (r : Fin 256) (k : ℕ) (hk : 2 * k + 1 < 64) :
    updateOf s hk (block_lt (ix2 n r)) st (productOf w q (g := 2 * k) (by omega)) (productOf w q hk) (inBlock (ix2 n r))
      = addedPair s w q st n r k := by
  have hb : inBlock (ix2 n r) = ix2 ⟨n.val % 128, Nat.mod_lt _ (by decide)⟩ r := rfl
  have hn : (⟨128 * (n.val / 128) + n.val % 128, by omega⟩ : Fin 2048) = n := Fin.ext (Nat.div_add_mod _ _)
  rw [hb]
  refine (updateOf_apply s hk (n := n.val / 128) (by omega) st _ _ ⟨n.val % 128, Nat.mod_lt _ (by decide)⟩ r).trans ?_
  dsimp only
  rw [hn, productOf_apply, productOf_apply, addedPair, added, added, dif_pos (by omega), dif_pos hk]

theorem pairsAfter_apply (s : Vec Ideal S16x64 .f32) (w : Vec Ideal S2048x8192 .fp8e4m3) (q : Vec Ideal S1x256x8192 .fp8e4m3) (st : FVec Ideal S64x256 .f32)
    (N : ℕ) (h : N ≤ 31) (a : Vec Ideal S2048x256 .f32) (n : Fin 2048) (r : Fin 256) :
    pairsAfter s w q st N h a (ix2 n r) = a (ix2 n r) + ∑ k ∈ Finset.range N, addedPair s w q st n r (32 - N + k) := by
  induction N generalizing a with
  | zero => rw [pairsAfter, Finset.range_zero, Finset.sum_empty, add_zero]
  | succ N ih =>
    rw [pairsAfter, ih, addAfter_apply, if_pos (by omega), updateOf_pair, Finset.sum_range_succ', add_comm (∑ k ∈ Finset.range N, _), ← add_assoc]
    have e0 : 32 - (N + 1) + 0 = 31 - N := by omega
    rw [e0]
    congr 1
    refine Finset.sum_congr rfl fun k _ => ?_
    congr 1
    omega

theorem sum_pairs (f : ℕ → EReal) (N : ℕ) : ∑ k ∈ Finset.range N, (f (2 * k) + f (2 * k + 1)) = ∑ g ∈ Finset.range (2 * N), f g := by
  induction N with
  | zero => rfl
  | succ N ih =>
    rw [Finset.sum_range_succ, ih, show 2 * (N + 1) = 2 * N + 1 + 1 from rfl, Finset.sum_range_succ, Finset.sum_range_succ, add_assoc]

theorem accOver_apply (s : Vec Ideal S16x64 .f32) (w : Vec Ideal S2048x8192 .fp8e4m3) (q : Vec Ideal S1x256x8192 .fp8e4m3) (st : FVec Ideal S64x256 .f32)
    (a : Vec Ideal S2048x256 .f32) (n : Fin 2048) (r : Fin 256) :
    accOver s w q st a (ix2 n r) = addedPair s w q st n r 0 + ∑ k ∈ Finset.range 31, addedPair s w q st n r (k + 1) := by
  rw [accOver, pairsAfter_apply, setAfter_apply, if_pos (Nat.le_add_left 16 _)]
  congr 1
  · exact updateOf_pair s w q st n r 0 (by omega)

theorem sum_added (s : Vec Ideal S16x64 .f32) (w : Vec Ideal S2048x8192 .fp8e4m3) (q : Vec Ideal S1x256x8192 .fp8e4m3) (st : FVec Ideal S64x256 .f32)
    (n : Fin 2048) (r : Fin 256) :
    addedPair s w q st n r 0 + ∑ k ∈ Finset.range 31, addedPair s w q st n r (k + 1) = ∑ g : Fin 64, added s w q st n r g.val := by
  rw [add_comm]
  generalize hf : added s w q st n r = f
  have hp : addedPair s w q st n r = fun k => f (2 * k) + f (2 * k + 1) := by
    funext k
    rw [← hf, addedPair]
  rw [hp]
  exact (Finset.sum_range_succ' (fun k => f (2 * k) + f (2 * k + 1)) 31).symm.trans
    ((sum_pairs f 32).trans (Fin.sum_univ_eq_sum_range f 64).symm)

/-- The accumulator is the sum over the groups. -/
theorem accBlock_apply (s : Vec Ideal S16x64 .f32) (x : Vec Ideal S1x256x8192 .bf16) (w : Vec Ideal S2048x8192 .fp8e4m3) (n : Fin 2048) (r : Fin 256) :
    accBlock s x w (ix2 n r)
      = ∑ g : Fin 64, dot w (codesBlock x) n r g.val g.isLt
          * (scaleOf (table x) (ix2 r g) * s (ix2 ⟨n.val / 128, by omega⟩ g)) := by
  unfold accBlock
  rw [accOver_apply, sum_added]
  refine Finset.sum_congr rfl fun g _ => ?_
  rw [added, dif_pos g.isLt]
  have e : scaleRows x (ix2 g r) = scaleOf (table x) (ix2 r g) := by
    pointwise [scaleRows, turned]
  rw [← e]

theorem outBlock_apply (s : Vec Ideal S16x64 .f32) (x : Vec Ideal S1x256x8192 .bf16) (w : Vec Ideal S2048x8192 .fp8e4m3) (r : Fin 256) (n : Fin 2048) :
    outBlock s x w (ix3 0 r n) = accBlock s x w (ix2 n r) := by
  pointwise [outBlock, outOf]

end Cert.KernelIdeal.Body

end
-- ==== Proof.ReferenceRun.lean ====
/-
  The reference's run, its results named as functions of its arguments.
-/
module

public import proofs.«01_k».proof.Proof.Gen.ReferenceIdeal.Frame
public import Idealize.ShloMosaic.Lib.Pipeline.ValueKit
public import Idealize.ShloMosaic.Lib.PointwiseCore
public import Idealize.ShloMosaic.Lib.StableHlo.RunRead
public import Idealize.ShloMosaic.Lib.Claim

@[expose] public section

noncomputable section

namespace Cert.ReferenceIdeal.Value

open Idealize.ShloMosaic Idealize.ShloMosaic.TcCoe
open Idealize.SL.Sem
open Idealize.ShloMosaic.Pipeline (Dat Cfg Window)
open Cert.ReferenceIdeal.Gen

variable {F : FTy → Type} [FloatOps F]

/-! ## The values -/

/-- The powers of two. -/
def powers : Vec F S253 .f32 := fun i => FloatOps.ofBits .f32 (lit0 (S253.rowMajor i))

/-- The activations by groups of 128 columns. -/
def grouped (X : Vec F S4x3072x8192 .bf16) : Vec F S4x3072x64x128 .f32 :=
  shapeCast S4x3072x64x128 (extf .f32 X bitsLt_bf16_f32) shapeCasts_S4x3072x8192_S4x3072x64x128

/-- The largest magnitude of a group. -/
def largest (X : Vec F S4x3072x8192 .bf16) : Vec F S4x3072x64 .f32 :=
  Host.reduce FloatOps.maximumf (Host.absf (grouped X)) (constant S_ .f32 0xFF800000#32) reducesTo_S4x3072x64x128_S4x3072x64_d3 h_S_

/-- The largest magnitude of a group over 448. -/
def ratio (X : Vec F S4x3072x8192 .bf16) : Vec F S4x3072x64 .f32 :=
  mulf (largest X) (broadcastInDim S4x3072x64 ![] bcast_S_S4x3072x64 (constant S_ .f32 0x3B124925#32))

/-- The powers of two above the ratio, infinity in place of the others. -/
def powersAbove (t : Vec F S4x3072x64 .f32) : Vec F S4x3072x64x253 .f32 :=
  select
    (cmpf .olt
      (broadcastInDim S4x3072x64x253 ![0, 1, 2, 3] bcast_S4x3072x64x1_S4x3072x64x253_0_1_2_3
        (broadcastInDim S4x3072x64x1 ![0, 1, 2] bcast_S4x3072x64_S4x3072x64x1_0_1_2 t))
      (broadcastInDim S4x3072x64x253 ![0, 1, 2, 3] bcast_S1x1x1x253_S4x3072x64x253_0_1_2_3
        (broadcastInDim S1x1x1x253 ![3] bcast_S253_S1x1x1x253_3 powers)))
    (broadcastInDim S4x3072x64x253 ![3] bcast_S253_S4x3072x64x253_3 powers)
    (broadcastInDim S4x3072x64x253 ![] bcast_S_S4x3072x64x253 (constant S_ .f32 0x7F800000#32))

/-- The least of them. -/
def above (t : Vec F S4x3072x64 .f32) : Vec F S4x3072x64 .f32 :=
  Host.reduce FloatOps.minimumf (powersAbove t) (constant S_ .f32 0x7F800000#32) reducesTo_S4x3072x64x253_S4x3072x64_d3 h_S_

/-- The scales from the ratios: one where the ratio is below the normal numbers. -/
def scaleFrom (t : Vec F S4x3072x64 .f32) : Vec F S4x3072x64 .f32 :=
  select (cmpf .olt t (broadcastInDim S4x3072x64 ![] bcast_S_S4x3072x64 (constant S_ .f32 0x00800000#32)))
    (broadcastInDim S4x3072x64 ![] bcast_S_S4x3072x64 (constant S_ .f32 0x3F800000#32)) (above t)

/-- The scales. -/
def scales (X : Vec F S4x3072x8192 .bf16) : Vec F S4x3072x64 .f32 := scaleFrom (ratio X)

/-- The activations over their scales, clipped, by groups. -/
def clippedFrom (x : Vec F S4x3072x64x128 .f32) (s : Vec F S4x3072x64 .f32) : Vec F S4x3072x64x128 .f32 :=
  minimumf (broadcastInDim S4x3072x64x128 ![] bcast_S_S4x3072x64x128 (constant S_ .f32 0x43E00000#32))
    (maximumf (broadcastInDim S4x3072x64x128 ![] bcast_S_S4x3072x64x128 (constant S_ .f32 0xC3E00000#32))
      (mulf x
        (broadcastInDim S4x3072x64x128 ![0, 1, 2, 3] bcast_S4x3072x64x1_S4x3072x64x128_0_1_2_3
          (broadcastInDim S4x3072x64x1 ![0, 1, 2] bcast_S4x3072x64_S4x3072x64x1_0_1_2
            (Host.divf (broadcastInDim S4x3072x64 ![] bcast_S_S4x3072x64 (constant S_ .f32 0x3F800000#32)) s)))))

/-- The activations over their scales, clipped. -/
def clipped (X : Vec F S4x3072x8192 .bf16) : Vec F S4x3072x8192 .f32 :=
  shapeCast S4x3072x8192 (clippedFrom (grouped X) (scales X)) shapeCasts_S4x3072x64x128_S4x3072x8192

/-- The codes. -/
def codes (X : Vec F S4x3072x8192 .bf16) : Vec F S4x3072x8192 .fp8e4m3 := truncf .fp8e4m3 (clipped X) bitsLt_fp8e4m3_f32

/-- The product of the codes and the weights within each group. -/
def partials (q : Vec F S4x3072x8192 .fp8e4m3) (w : Vec F S2048x8192 .fp8e4m3) : Vec F S64x12288x2048 .f32 :=
  Host.dotGeneral dot_S12288x64x128_S2048x64x128_S64x12288x2048_2_2_0_0_1_1 (some .fp32)
    (shapeCast S12288x64x128 (extf .f32 q bitsLt_fp8e4m3_f32) shapeCasts_S4x3072x8192_S12288x64x128)
    (shapeCast S2048x64x128 (extf .f32 w bitsLt_fp8e4m3_f32) shapeCasts_S2048x8192_S2048x64x128)

/-- The scales of the activations, by group and row. -/
def rowScales (s : Vec F S4x3072x64 .f32) : Vec F S64x12288 .f32 :=
  transpose S64x12288 [1, 0] (shapeCast S12288x64 s shapeCasts_S4x3072x64_S12288x64) transposes_S12288x64_S64x12288_1_0

/-- The scales of the weights, by group and column. -/
def columnScales (S : Vec F S16x64 .f32) : Vec F S64x2048 .f32 :=
  transpose S64x2048 [1, 0]
    (shapeCast S2048x64 (broadcastInDim S16x128x64 ![0, 2] bcast_S16x64_S16x128x64_0_2 S) shapeCasts_S16x128x64_S2048x64)
    transposes_S2048x64_S64x2048_1_0

/-- The products weighted by both scales. -/
def weighted (p : Vec F S64x12288x2048 .f32) (r : Vec F S64x12288 .f32) (n : Vec F S64x2048 .f32) : Vec F S64x12288x2048 .f32 :=
  mulf
    (mulf p
      (broadcastInDim S64x12288x2048 ![0, 1, 2] bcast_S64x12288x1_S64x12288x2048_0_1_2
        (broadcastInDim S64x12288x1 ![0, 1] bcast_S64x12288_S64x12288x1_0_1 r)))
    (broadcastInDim S64x12288x2048 ![0, 1, 2] bcast_S64x1x2048_S64x12288x2048_0_1_2
      (broadcastInDim S64x1x2048 ![0, 2] bcast_S64x2048_S64x1x2048_0_2 n))

/-- Their sum over the groups. -/
def summed (p : Vec F S64x12288x2048 .f32) : Vec F S4x3072x2048 .bf16 :=
  truncf .bf16
    (shapeCast S4x3072x2048 (Host.reduceAdd p (constant S_ .f32 0x00000000#32) reducesTo_S64x12288x2048_S12288x2048_d0 h_S_)
      shapeCasts_S12288x2048_S4x3072x2048) bitsLt_bf16_f32

/-- The output. -/
def out (S : Vec F S16x64 .f32) (X : Vec F S4x3072x8192 .bf16) (w : Vec F S2048x8192 .fp8e4m3) : Vec F S4x3072x2048 .bf16 :=
  summed (weighted (partials (codes X) w) (rowScales (scales X)) (columnScales S))

variable (m : (ℓ : Loc nD τ sig) → Buf (Elt F) ℓ) (ρ : Dev nD → PrngReg)

/-! ## The reads -/

theorem V_v15 (c : Dev nD) : V m c main_v15 = scales (m ((c : Thread nD τ).loc main_arg0)) := by
  simp only [V, V0, hostOps0, hostOps0_1, hostOps0_2, hostOps0_3, hostOps0_4, hostOps0_5, hostOps0_6, List.flatten_cons,
    List.flatten_nil, List.append_nil, List.cons_append, List.nil_append]
  after_results
  simp -implicitDefEqProofs only [StableHlo.TRef.ofBuf_toBuf, StableHlo.TRef.toBuf, StableHlo.TRef.ofBuf, cast_eq, id_eq]
  rfl

theorem V_v22 (c : Dev nD) : V m c main_v22 = clipped (m ((c : Thread nD τ).loc main_arg0)) := by
  simp only [V, V0, hostOps0, hostOps0_1, hostOps0_2, hostOps0_3, hostOps0_4, hostOps0_5, hostOps0_6, List.flatten_cons,
    List.flatten_nil, List.append_nil, List.cons_append, List.nil_append]
  after_results
  simp -implicitDefEqProofs only [StableHlo.TRef.ofBuf_toBuf, StableHlo.TRef.toBuf, StableHlo.TRef.ofBuf, cast_eq, id_eq]
  rfl

theorem idx : ∀ t : Fin cfg0.N, win0_0.index t = ![0, 0, 0] ∧ win0_1.index t = ![0, 0] :=
  (by decide +kernel : ∀ t : Fin grid0.N, _)

theorem iblk0 (c : Dev nD) (t : Fin cfg0.N) : iblk m c 0 t = clipped (m ((c : Thread nD τ).loc main_arg0)) := by
  obtain rfl := fin_N0 t
  rw [← V_v22 m c]
  blk_ext! [iblk, idx t0_0]

theorem iblk1 (c : Dev nD) (t : Fin cfg0.N) : iblk m c 1 t = m ((c : Thread nD τ).loc main_arg1) := by
  obtain rfl := fin_N0 t
  rw [← V_main_arg1 m c]
  blk_ext! [iblk, idx t0_0]

theorem out0_2_eq (x : Vec F S4x3072x8192 .f32) (w : Vec F S2048x8192 .fp8e4m3) :
    out0_2 x w = truncf .fp8e4m3 x bitsLt_fp8e4m3_f32 := by
  funext j
  unfold out0_2
  rw [View.canon_cons_unit_lit _ _ _ (by decide), View.ld_unit_lit _ _ (by decide)]
  unfold k0_pay1
  rw [shapeCast_self]

theorem out0_3_eq (x : Vec F S4x3072x8192 .f32) (w : Vec F S2048x8192 .fp8e4m3) :
    out0_3 x w = extf .f32 (truncf .fp8e4m3 x bitsLt_fp8e4m3_f32) bitsLt_fp8e4m3_f32 := by
  funext j
  unfold out0_3
  rw [View.canon_cons_unit_lit _ _ _ (by decide), View.ld_unit_lit _ _ (by decide)]
  unfold k0_pay2 k0_pay1
  rw [shapeCast_self]

theorem out0_4_eq (x : Vec F S4x3072x8192 .f32) (w : Vec F S2048x8192 .fp8e4m3) :
    out0_4 x w = extf .f32 w bitsLt_fp8e4m3_f32 := by
  funext j
  unfold out0_4
  rw [View.canon_cons_unit_lit _ _ _ (by decide), View.ld_unit_lit _ _ (by decide)]
  rfl

theorem final_codes (c : Dev nD) : (dats m 0 c).arrAt 2 cfg0.N = codes (m ((c : Thread nD τ).loc main_arg0)) := by
  refine (dats m 0 c).arrAt_eq_of_after_last 2 t0_0 (by decide +kernel) _ fun j => ?_
  blk_simp
  rw [after0_2, iblk0, iblk1]
  exact congrFun (out0_2_eq _ _) j

theorem final_x (c : Dev nD) : (dats m 0 c).arrAt 3 cfg0.N
    = extf .f32 (codes (m ((c : Thread nD τ).loc main_arg0))) bitsLt_fp8e4m3_f32 := by
  refine (dats m 0 c).arrAt_eq_of_after_last 3 t0_0 (by decide +kernel) _ fun j => ?_
  blk_simp
  rw [after0_3, iblk0, iblk1]
  exact congrFun (out0_3_eq _ _) j

theorem final_w (c : Dev nD) : (dats m 0 c).arrAt 4 cfg0.N = extf .f32 (m ((c : Thread nD τ).loc main_arg1)) bitsLt_fp8e4m3_f32 := by
  refine (dats m 0 c).arrAt_eq_of_after_last 4 t0_0 (by decide +kernel) _ fun j => ?_
  blk_simp
  rw [after0_4, iblk0, iblk1]
  exact congrFun (out0_4_eq _ _) j

/-- The valuation the operations after the casts start from. -/
abbrev V1 (c : Dev nD) : Valuation τ sig (Elt F) :=
  Pipeline.withArrays (cfgs 0).spec c (V0 m c) fun w => (dats m 0 c).arrAt w (cfgs 0).N

theorem V1_x (c : Dev nD) : V1 m c (Proc.devRef .tc main_v23_1) = extf .f32 (codes (m ((c : Thread nD τ).loc main_arg0))) bitsLt_fp8e4m3_f32 :=
  (Pipeline.withArrays_arr spec0 (by decide) c (V0 m c) (fun w => (dats m 0 c).arrAt w cfg0.N) 3).trans (final_x m c)

theorem V1_w (c : Dev nD) : V1 m c (Proc.devRef .tc main_v23_2) = extf .f32 (m ((c : Thread nD τ).loc main_arg1)) bitsLt_fp8e4m3_f32 :=
  (Pipeline.withArrays_arr spec0 (by decide) c (V0 m c) (fun w => (dats m 0 c).arrAt w cfg0.N) 4).trans (final_w m c)

theorem V1_v15 (c : Dev nD) : V1 m c (Proc.devRef .tc main_v15) = scales (m ((c : Thread nD τ).loc main_arg0)) :=
  (Pipeline.withArrays_of_ne _ c (V0 m c) _ main_v15 (by exact (by decide : ∀ w, Pipeline.arrRef spec0 w ≠ main_v15))).trans (V_v15 m c)

theorem V1_arg2 (c : Dev nD) : V1 m c (Proc.devRef .tc main_arg2) = m ((c : Thread nD τ).loc main_arg2) :=
  (Pipeline.withArrays_of_ne _ c (V0 m c) _ main_arg2 (by exact (by decide : ∀ w, Pipeline.arrRef spec0 w ≠ main_arg2))).trans (V_main_arg2 m c)

theorem tail_out (c : Dev nD) : Pipeline.afterTail₀ cfgs (dats m) 0 (V0 m) [hostOps1] c main_v40
    = out (m ((c : Thread nD τ).loc main_arg2)) (m ((c : Thread nD τ).loc main_arg0)) (m ((c : Thread nD τ).loc main_arg1)) := by
  unfold Pipeline.afterTail₀
  simp only [hostOps1, List.flatten_cons, List.flatten_nil, List.append_nil]
  after_results
  have hx := V1_x m c
  have hw := V1_w m c
  have hs := V1_v15 m c
  have h2 := V1_arg2 m c
  unfold V1 at hx hw hs h2
  rw [hx, hw, hs, h2]
  rfl

theorem tail_scales (c : Dev nD) : Pipeline.afterTail₀ cfgs (dats m) 0 (V0 m) [hostOps1] c main_v15
    = scales (m ((c : Thread nD τ).loc main_arg0)) := by
  unfold Pipeline.afterTail₀
  simp only [hostOps1, List.flatten_cons, List.flatten_nil, List.append_nil]
  after_results
  exact V1_v15 m c

/-- The reference's run, its results named. -/
theorem run : θ_run defs (onTc (τ := τ) (main (F := F))) ⟨m, fun _ => 0, ρ⟩ (fun r => ∀ c : Dev nD,
      r.2.mem ((c.tc : Thread nD τ).loc main_v40)
        = out (m ((c : Thread nD τ).loc main_arg2)) (m ((c : Thread nD τ).loc main_arg0)) (m ((c : Thread nD τ).loc main_arg1))
      ∧ r.2.mem ((c.tc : Thread nD τ).loc main_v23_0) = codes (m ((c : Thread nD τ).loc main_arg0))
      ∧ r.2.mem ((c.tc : Thread nD τ).loc main_v15) = scales (m ((c : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  run_from run_main m ρ
  · exact tail_out m c
  · exact final_codes m c
  · exact tail_scales m c
  · exact W_main_arg0 m (dats m) c
  · exact W_main_arg2 m (dats m) c

end Cert.ReferenceIdeal.Value

end
-- ==== Proof.ReferenceValue.lean ====
/-
  The reference's values over the extended reals, element by element.
-/
module

public import proofs.«01_k».proof.Proof.ReferenceRun
public import proofs.«01_k».proof.Proof.Exponent
public import proofs.«01_k».proof.Proof.Numbers
public import Idealize.ShloMosaic.Lib.Pointwise

@[expose] public section

noncomputable section

namespace Cert.ReferenceIdeal.Value

open Idealize.ShloMosaic
open Cert.ReferenceIdeal.Gen
open Cert.Exponent

theorem lit0_word : ∀ i : Fin 253, lit0 i = word (i.val + 2) := by decide +kernel

theorem lit0_at (j i : Fin 253) (h : j.val = i.val) : Ideal.ofBits .f32 (lit0 j) = power (i.val + 2) := by
  rw [Fin.ext h, lit0_word, power]

theorem position (i : Fin 253) : (S253.rowMajor (ix1 i)).val = i.val := Shape.rowMajor_val_one (ix1 i)

theorem powers_apply (i : Fin 253) : powers (F := Ideal) (ix1 i) = power (i.val + 2) := by
  unfold powers
  exact lit0_at _ i (position i)

theorem grouped_apply (X : Vec Ideal S4x3072x8192 .bf16) (b : Fin 4) (r : Fin 3072) (g : Fin 64) (k : Fin 128) :
    grouped X (ix4 b r g k) = X (ix3 b r ⟨g.val * 128 + k.val, by omega⟩) := by
  pointwise [grouped]

theorem largest_apply (X : Vec Ideal S4x3072x8192 .bf16) (b : Fin 4) (r : Fin 3072) (g : Fin 64) :
    largest X (ix3 b r g) = Finset.univ.fold max ⊥ fun k : Fin 128 => mag (X (ix3 b r ⟨g.val * 128 + k.val, by omega⟩)) := by
  pointwise [largest]
  rw [negInf_f32]
  refine Finset.fold_congr fun k _ => ?_
  rw [grouped_apply]
  rfl

theorem above_apply (t : Vec Ideal S4x3072x64 .f32) (b : Fin 4) (r : Fin 3072) (g : Fin 64) :
    above (F := Ideal) t (ix3 b r g) = Exponent.above (t (ix3 b r g)) := by
  pointwise [above, powersAbove]
  rw [posInf_f32]
  exact Finset.fold_congr fun i _ => by rw [powers_apply, aboveAt]

theorem scaleFrom_apply (t : Vec Ideal S4x3072x64 .f32) (b : Fin 4) (r : Fin 3072) (g : Fin 64) :
    scaleFrom (F := Ideal) t (ix3 b r g) = (if t (ix3 b r g) < power 1 then 1 else Exponent.above (t (ix3 b r g)) : EReal) := by
  pointwise [scaleFrom]
  rw [above_apply]
  exact if_congr Iff.rfl rfl rfl

theorem over_apply (v : Vec Ideal S4x3072x64 .f32) (q : BitVec 32) (b : Fin 4) (r : Fin 3072) (g : Fin 64) :
    mulf (F := Ideal) v (broadcastInDim S4x3072x64 ![] bcast_S_S4x3072x64 (constant S_ .f32 q)) (ix3 b r g) = (v (ix3 b r g) * Ideal.ofBits .f32 q : EReal) := by
  pointwise

theorem ratio_apply (X : Vec Ideal S4x3072x8192 .bf16) (b : Fin 4) (r : Fin 3072) (g : Fin 64) :
    ratio X (ix3 b r g) = quotient (largest X (ix3 b r g)) := by
  unfold ratio quotient
  rw [over_apply]

theorem scales_apply (X : Vec Ideal S4x3072x8192 .bf16) (b : Fin 4) (r : Fin 3072) (g : Fin 64) :
    scales X (ix3 b r g) = (if quotient (largest X (ix3 b r g)) < power 1 then 1 else Exponent.above (quotient (largest X (ix3 b r g))) : EReal) := by
  rw [scales, scaleFrom_apply, ratio_apply]

theorem clippedFrom_apply (x : Vec Ideal S4x3072x64x128 .f32) (s : Vec Ideal S4x3072x64 .f32) (b : Fin 4) (r : Fin 3072) (g : Fin 64) (k : Fin 128) :
    clippedFrom (F := Ideal) x s (ix4 b r g k) = coded (x (ix4 b r g k)) (Ideal.div 1 (s (ix3 b r g))) := by
  pointwise [clippedFrom]
  rw [coded]

theorem codes_apply (X : Vec Ideal S4x3072x8192 .bf16) (b : Fin 4) (r : Fin 3072) (c : Fin 8192) :
    codes X (ix3 b r c) = coded (X (ix3 b r c)) (Ideal.div 1 (scales X (ix3 b r ⟨c.val / 128, by omega⟩))) := by
  pointwise [codes, clipped]
  rw [clippedFrom_apply, grouped_apply]
  have e : (⟨c.val / 128 * 128 + c.val % 128, by omega⟩ : Fin 8192) = c := Fin.ext (Nat.div_add_mod' c.val 128)
  simp only [e]

theorem partials_apply (q : Vec Ideal S4x3072x8192 .fp8e4m3) (w : Vec Ideal S2048x8192 .fp8e4m3) (g : Fin 64) (R : Fin 12288) (n : Fin 2048) :
    partials q w (ix3 g R n) = ∑ k : Fin 128, q (ix3 ⟨R.val / 3072, by omega⟩ ⟨R.val % 3072, by omega⟩ ⟨g.val * 128 + k.val, by omega⟩)
      * w (ix2 n ⟨g.val * 128 + k.val, by omega⟩) := by
  pointwise [partials]

theorem rowScales_apply (s : Vec Ideal S4x3072x64 .f32) (g : Fin 64) (R : Fin 12288) :
    rowScales s (ix2 g R) = s (ix3 ⟨R.val / 3072, by omega⟩ ⟨R.val % 3072, by omega⟩ g) := by
  pointwise [rowScales]

theorem columnScales_apply (s : Vec Ideal S16x64 .f32) (g : Fin 64) (n : Fin 2048) :
    columnScales s (ix2 g n) = s (ix2 ⟨n.val / 128, by omega⟩ g) := by
  pointwise [columnScales]

theorem weighted_apply (p : Vec Ideal S64x12288x2048 .f32) (r : Vec Ideal S64x12288 .f32) (n : Vec Ideal S64x2048 .f32) (g : Fin 64) (R : Fin 12288) (N : Fin 2048) :
    weighted (F := Ideal) p r n (ix3 g R N) = (p (ix3 g R N) * r (ix2 g R) * n (ix2 g N) : EReal) := by
  pointwise [weighted]

theorem summed_apply (p : Vec Ideal S64x12288x2048 .f32) (b : Fin 4) (r : Fin 3072) (N : Fin 2048) :
    summed (F := Ideal) p (ix3 b r N) = (∑ g : Fin 64, p (ix3 g ⟨b.val * 3072 + r.val, by omega⟩ N) : EReal) := by
  pointwise [summed]

theorem row_batch (R : Fin 12288) (b : Fin 4) (r : Fin 3072) (h : R.val = b.val * 3072 + r.val) (hR : R.val / 3072 < 4) : (⟨R.val / 3072, hR⟩ : Fin 4) = b :=
  Fin.ext (by dsimp only; omega)

theorem row_row (R : Fin 12288) (b : Fin 4) (r : Fin 3072) (h : R.val = b.val * 3072 + r.val) (hR : R.val % 3072 < 3072) : (⟨R.val % 3072, hR⟩ : Fin 3072) = r :=
  Fin.ext (by dsimp only; omega)

/-- One group's term of the output. -/
theorem term_apply (S : Vec Ideal S16x64 .f32) (q : Vec Ideal S4x3072x8192 .fp8e4m3) (s : Vec Ideal S4x3072x64 .f32) (w : Vec Ideal S2048x8192 .fp8e4m3)
    (R : Fin 12288) (b : Fin 4) (r : Fin 3072) (h : R.val = b.val * 3072 + r.val) (n : Fin 2048) (g : Fin 64) :
    weighted (partials q w) (rowScales s) (columnScales S) (ix3 g R n)
      = ((∑ k : Fin 128, q (ix3 b r ⟨g.val * 128 + k.val, by omega⟩) * w (ix2 n ⟨g.val * 128 + k.val, by omega⟩))
      * s (ix3 b r g) * S (ix2 ⟨n.val / 128, by omega⟩ g) : EReal) := by
  rw [weighted_apply, partials_apply, rowScales_apply, columnScales_apply, row_batch R b r h, row_row R b r h]

theorem out_apply (S : Vec Ideal S16x64 .f32) (X : Vec Ideal S4x3072x8192 .bf16) (w : Vec Ideal S2048x8192 .fp8e4m3) (b : Fin 4) (r : Fin 3072) (n : Fin 2048) :
    out S X w (ix3 b r n) = (∑ g : Fin 64, (∑ k : Fin 128, codes X (ix3 b r ⟨g.val * 128 + k.val, by omega⟩) * w (ix2 n ⟨g.val * 128 + k.val, by omega⟩))
      * scales X (ix3 b r g) * S (ix2 ⟨n.val / 128, by omega⟩ g) : EReal) := by
  rw [out, summed_apply]
  exact Finset.sum_congr rfl fun g _ => term_apply S (codes X) (scales X) w _ b r rfl n g

end Cert.ReferenceIdeal.Value

end
-- ==== Proof.Equal.lean ====
/-
  The two programs' results, equal element by element over the extended reals where every
  activation is finite.
-/
module

public import proofs.«01_k».proof.Proof.Arrays
public import proofs.«01_k».proof.Proof.KernelBlock
public import proofs.«01_k».proof.Proof.ReferenceValue

@[expose] public section

noncomputable section

namespace Cert.Equal

open Idealize.ShloMosaic
open Cert.Exponent

/-- Every activation is at most the largest finite value in magnitude. -/
def Bounded (X : Vec Ideal Cert.KernelIdeal.S4x3072x8192 .bf16) : Prop :=
  ∀ j, mag (X j) ≤ Ideal.ofBits .f32 0x7F7F0000#32

/-- The largest magnitude of a group of a row. -/
def top (X : Vec Ideal Cert.KernelIdeal.S4x3072x8192 .bf16) (b : Fin 4) (r : Fin 3072) (g : Fin 64) : EReal :=
  Finset.univ.fold max ⊥ fun k : Fin 128 => mag (X (ix3 b r ⟨g.val * 128 + k.val, by omega⟩))

theorem mag_nonneg (a : EReal) : 0 ≤ mag a := by
  unfold mag
  rcases le_total 0 a with h | h
  · exact h.trans (le_max_left _ _)
  · exact le_trans (by simpa using h) (le_max_right _ _)

section

variable (X : Vec Ideal Cert.KernelIdeal.S4x3072x8192 .bf16) (hX : Bounded X)

theorem top_nonneg (b : Fin 4) (r : Fin 3072) (g : Fin 64) : 0 ≤ top X b r g := by
  unfold top
  rw [Finset.le_fold_max]
  exact .inr ⟨0, Finset.mem_univ _, mag_nonneg _⟩

include hX in
theorem top_le (b : Fin 4) (r : Fin 3072) (g : Fin 64) : top X b r g ≤ Ideal.ofBits .f32 0x7F7F0000#32 := by
  unfold top
  rw [Finset.fold_max_le]
  exact ⟨bot_le, fun k _ => hX _⟩

/-- The exponent of a group's largest magnitude over the largest code. -/
def expo (b : Fin 4) (r : Fin 3072) (g : Fin 64) : ℕ := used (quotient (top X b r g))

include hX in
theorem ratio_nonneg (b : Fin 4) (r : Fin 3072) (g : Fin 64) : 0 ≤ quotient (top X b r g) :=
  (quotient_lt (top_nonneg X b r g) (top_le X hX b r g)).1

include hX in
theorem ratio_lt (b : Fin 4) (r : Fin 3072) (g : Fin 64) : quotient (top X b r g) < power 253 :=
  (quotient_lt (top_nonneg X b r g) (top_le X hX b r g)).2

/-! ## The reference -/

include hX in
theorem ref_scales (b : Fin 4) (r : Fin 3072) (g : Fin 64) :
    Cert.ReferenceIdeal.Value.scales X (ix3 b r g) = power (expo X b r g + 1) := by
  rw [Cert.ReferenceIdeal.Value.scales_apply, Cert.ReferenceIdeal.Value.largest_apply]
  exact scale_eq (ratio_nonneg X hX b r g) (ratio_lt X hX b r g)

include hX in
theorem ref_codes (b : Fin 4) (r : Fin 3072) (c : Fin 8192) :
    Cert.ReferenceIdeal.Value.codes X (ix3 b r c) = coded (X (ix3 b r c)) (power (253 - expo X b r ⟨c.val / 128, by omega⟩)) := by
  rw [Cert.ReferenceIdeal.Value.codes_apply, ref_scales X hX]
  exact congrArg _ (inv_eq (ratio_nonneg X hX b r _) (ratio_lt X hX b r _))

/-! ## The kernel's block of a tile -/

open Cert.KernelIdeal Cert.KernelIdeal.Body Cert.KernelIdeal.Value

/-- A row of the whole from its tile and its place in the tile. -/
theorem xBlock_apply (b : Fin 4) (r : Fin 3072) (c : Fin 8192) :
    xBlock X b (tile r) (ix3 0 (row r) c) = X (ix3 b r c) := by
  have h : (⟨256 * (tile r).val + (row r).val, by have := (tile r).isLt; have := (row r).isLt; omega⟩ : Fin 3072) = r :=
    Fin.ext (Nat.div_add_mod r.val 256)
  exact congrArg (fun a => X (ix3 b a c)) h

theorem table_eq (b : Fin 4) (r : Fin 3072) (g : Fin 64) :
    table (xBlock X b (tile r)) (ix2 (row r) g) = top X b r g := by
  rw [table_apply, largest, top]
  refine Finset.fold_congr fun k _ => ?_
  rw [groupOf_apply, xBlock_apply]
  exact congrArg (fun a => mag (X (ix3 b r a))) (Fin.ext (congrArg (· + k.val) (Nat.mul_comm 128 g.val)))

include hX in
theorem ker_scale (b : Fin 4) (r : Fin 3072) (g : Fin 64) :
    scaleOf (table (xBlock X b (tile r))) (ix2 (row r) g) = power (expo X b r g + 1) := by
  have e := table_eq X b r g
  rw [scaleOf_apply _ _ (by rw [e]; exact ratio_nonneg X hX b r g) (by rw [e]; exact ratio_lt X hX b r g), e]
  rfl

include hX in
theorem ker_inv (b : Fin 4) (r : Fin 3072) (g : Fin 64) :
    invOf (table (xBlock X b (tile r))) (ix2 (row r) g) = power (253 - expo X b r g) := by
  have e := table_eq X b r g
  rw [invOf_apply _ _ (by rw [e]; exact ratio_nonneg X hX b r g) (by rw [e]; exact ratio_lt X hX b r g), e]
  rfl

include hX in
theorem ker_codes (b : Fin 4) (r : Fin 3072) (c : Fin 8192) :
    codesBlock (xBlock X b (tile r)) (ix3 0 (row r) c) = Cert.ReferenceIdeal.Value.codes X (ix3 b r c) := by
  rw [codesBlock_apply, xBlock_apply, ker_inv X hX, ref_codes X hX]

include hX in
theorem ker_dot (w : Vec Ideal S2048x8192 .fp8e4m3) (b : Fin 4) (r : Fin 3072) (n : Fin 2048) (g : Fin 64) :
    dot w (codesBlock (xBlock X b (tile r))) n (row r) g.val g.isLt
      = ∑ k : Fin 128, (Cert.ReferenceIdeal.Value.codes X (ix3 b r ⟨g.val * 128 + k.val, by omega⟩)
          * w (ix2 n ⟨g.val * 128 + k.val, by omega⟩) : EReal) := by
  unfold dot
  refine Finset.sum_congr rfl fun k _ => ?_
  have e : (⟨128 * g.val + k.val, by omega⟩ : Fin 8192) = ⟨g.val * 128 + k.val, by omega⟩ :=
    Fin.ext (congrArg (· + k.val) (Nat.mul_comm 128 g.val))
  rw [ker_codes X hX, e]
  exact mul_comm _ _

/-! ## The results -/

include hX in
/-- The codes agree. -/
theorem codes_eq : codesArr X = Cert.ReferenceIdeal.Value.codes X := by
  funext j
  obtain ⟨b, r, c, rfl⟩ : ∃ b r c, j = ix3 b r c := ⟨j 0, j 1, j 2, eq_ix3 j⟩
  exact ker_codes X hX b r c

include hX in
/-- The scales agree. -/
theorem scales_eq (h : S4x64x3072.Transposes [0, 2, 1] S4x3072x64) :
    transpose S4x3072x64 [0, 2, 1] (scalesArr X) h = Cert.ReferenceIdeal.Value.scales X := by
  funext j
  obtain ⟨b, r, g, rfl⟩ : ∃ b r g, j = ix3 b r g := ⟨j 0, j 1, j 2, eq_ix3 j⟩
  rw [ref_scales X hX, ← ker_scale X hX, ← scalesBlock_apply]
  generalize hs : scalesArr X = s
  pointwise
  rw [← hs]
  rfl

include hX in
/-- The outputs agree. -/
theorem out_eq (S : Vec Ideal S16x64 .f32) (w : Vec Ideal S2048x8192 .fp8e4m3) :
    outArr S X w = Cert.ReferenceIdeal.Value.out S X w := by
  funext j
  obtain ⟨b, r, n, rfl⟩ : ∃ b r n, j = ix3 b r n := ⟨j 0, j 1, j 2, eq_ix3 j⟩
  rw [Cert.ReferenceIdeal.Value.out_apply]
  show outBlock S (xBlock X b (tile r)) w (ix3 0 (row r) n) = _
  rw [outBlock_apply, accBlock_apply]
  refine Finset.sum_congr rfl fun g _ => ?_
  rw [ker_dot X hX, ker_scale X hX, ref_scales X hX]
  exact (mul_assoc _ _ _).symm

end

end Cert.Equal

end
-- ==== Proof.Finite.lean ====
/-
  What the precondition says: every activation is at most the largest finite value in magnitude.
-/
module

public import proofs.«01_k».proof.Proof.Equal
public import proofs.«01_k».proof.Pre_finite
public import Idealize.ShloMosaic.Lib.ReduceAll

@[expose] public section

noncomputable section

namespace Cert.Equal

open Idealize.ShloMosaic
open Cert.Exponent

theorem bounded_of [Cert.Pre_finite.Facts] (X : Vec Ideal Cert.KernelIdeal.S4x3072x8192 .bf16) (w : Vec Ideal Cert.KernelIdeal.S2048x8192 .fp8e4m3)
    (S : Vec Ideal Cert.KernelIdeal.S16x64 .f32) (h : Cert.Pre_finite.fn (F := Ideal) X w S = fun _ => 1#1) : Bounded X := by
  intro j
  have h0 := congrFun h ix0
  dsimp only [Cert.Pre_finite.fn] at h0
  have h1 := Host.reduce_andi_all _ _ _ _ _ h0 j
  obtain ⟨b, r, c, rfl⟩ : ∃ b r c, j = ix3 b r c := ⟨j 0, j 1, j 2, eq_ix3 j⟩
  pointwise at h1
  by_contra hn
  rw [show decide (FloatOps.absf (X (ix3 b r c)) ≤ Ideal.ofBits .f32 0x7F7F0000#32) = false from decide_eq_false hn] at h1
  exact absurd h1 (by decide)

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite
public import proofs.«01_k».proof.Proof.Finite
public import Idealize.ShloMosaic.Adequacy
public import Idealize.ShloMosaic.Init

@[expose] public section

noncomputable section

namespace Cert.Proof

open Idealize.ShloMosaic Idealize.SL.Sem Cert.Kernel

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  have hX := fun c => Cert.Equal.bounded_of _ _ _ (hpre c)
  refine ⟨_, _, _, Cert.KernelIdeal.Value.run m g, θ_run_mono (Cert.ReferenceIdeal.Value.run m' g') fun r h c => ?_⟩
  obtain ⟨e0, e1, e2⟩ := hagree c
  obtain ⟨h0, h1, h2, h3, h4, h5⟩ := h c
  refine ⟨h0.trans ?_, h1.trans ?_, h2.trans ?_, h3, h4, h5⟩
  · rw [Cert.Equal.out_eq _ (hX c), e0, e1, e2]
  · rw [Cert.Equal.codes_eq _ (hX c), e0]
  · rw [Cert.Equal.scales_eq _ (hX c), e0]

theorem claim : Cert.Claim := ⟨Cert.Kernel.Gen.facts, Cert.KernelIdeal.Gen.facts, Cert.ReferenceIdeal.Gen.facts, Cert.Pre_finite.Gen.facts,
  fun m g _ => Cert.Kernel.Gen.frame m g, fun m g _ => Cert.KernelIdeal.Gen.frame m g, fun m g _ => Cert.KernelIdeal.Gen.frame m g,
  fun m g _ => Cert.ReferenceIdeal.Gen.frame m g, fun m g _ => Cert.ReferenceIdeal.Gen.frame m g, trivial, algebraic⟩

end Cert.Proof

end
